-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1048576x64 : Shape := ⟨2, ![1048576, 64]⟩
abbrev S1048576 : Shape := ⟨1, ![1048576]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576x64 .f32) (main_arg1 : IVec S1048576 32) : IVec S_ 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 32 := constantI S_ 32 64#32
  let main_v2 : IVec S1048576 32 := broadcastInDim S1048576 ![] bcast_S_S1048576 main_c_0
  let main_v3 : IVec S1048576 1 := cmpi .slt main_arg1 main_v2
  let main_v4 : IVec S1048576 1 := andi main_v1 main_v3
  let main_c_1 : IVec S_ 1 := constantI S_ 1 1#1
  let main_v5 : IVec S_ 1 := (fun x v => Host.reduce IntOp.andi x v reducesTo_S1048576_S_d0 h_S_) main_v4 main_c_1
  main_v5
-- ==== Kernel.lean ====
abbrev S1048576x64 : Shape := ⟨2, ![1048576, 64]⟩
abbrev S1048576 : Shape := ⟨1, ![1048576]⟩
abbrev S8192x128x8x8 : Shape := ⟨4, ![8192, 128, 8, 8]⟩
abbrev S8x8192x8x128 : Shape := ⟨4, ![8, 8192, 8, 128]⟩
abbrev S67108864 : Shape := ⟨1, ![67108864]⟩
abbrev S32x16 : Shape := ⟨2, ![32, 16]⟩
abbrev S32x64 : Shape := ⟨2, ![32, 64]⟩
abbrev S32768 : Shape := ⟨1, ![32768]⟩
abbrev S64 : Shape := ⟨1, ![64]⟩
abbrev S4096 : Shape := ⟨1, ![4096]⟩
abbrev S16 : Shape := ⟨1, ![16]⟩
abbrev S_ : Shape := ⟨0, ![]⟩
abbrev S1x16 : Shape := ⟨2, ![1, 16]⟩
abbrev S1x64 : Shape := ⟨2, ![1, 64]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 9
  | .local .tc .vmem => 2
  | .local .tc .smem => 1
  | .local .scVector .vmem => 8
  | _ => 0

abbrev bufTy : (tb : Table) → Fin (nBuf tb) → BufTy
  | .hbm, ⟨0, _⟩ => ⟨S1048576x64, .f32⟩
  | .hbm, ⟨1, _⟩ => ⟨S1048576, .i32⟩
  | .hbm, ⟨2, _⟩ => ⟨S8192x128x8x8, .f32⟩
  | .hbm, ⟨3, _⟩ => ⟨S8x8192x8x128, .f32⟩
  | .hbm, ⟨4, _⟩ => ⟨S67108864, .f32⟩
  | .hbm, ⟨5, _⟩ => ⟨S32x16, .f32⟩
  | .hbm, ⟨6, _⟩ => ⟨S32x64, .f32⟩
  | .hbm, ⟨7, _⟩ => ⟨S1x1, .f32⟩
  | .hbm, ⟨8, _⟩ => ⟨S_, .f32⟩
  | .local .tc .vmem, ⟨0, _⟩ => ⟨S32x16, .f32⟩
  | .local .tc .vmem, ⟨1, _⟩ => ⟨S32x64, .f32⟩
  | .local .tc .smem, ⟨0, _⟩ => ⟨S1x1, .f32⟩
  | .local .scVector .vmem, ⟨0, _⟩ => ⟨S32768, .i32⟩
  | .local .scVector .vmem, ⟨1, _⟩ => ⟨S64, .i32⟩
  | .local .scVector .vmem, ⟨2, _⟩ => ⟨S4096, .i32⟩
  | .local .scVector .vmem, ⟨3, _⟩ => ⟨S4096, .i32⟩
  | .local .scVector .vmem, ⟨4, _⟩ => ⟨S4096, .f32⟩
  | .local .scVector .vmem, ⟨5, _⟩ => ⟨S4096, .f32⟩
  | .local .scVector .vmem, ⟨6, _⟩ => ⟨S64, .f32⟩
  | .local .scVector .vmem, ⟨7, _⟩ => ⟨S16, .f32⟩
  | _, _ => ⟨S1048576x64, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v2_scv : Ref sig .scVector := ⟨.hbm, 4, rfl⟩
abbrev main_arg1_scv : Ref sig .scVector := ⟨.hbm, 1, rfl⟩
abbrev main_v3_0_scv : Ref sig .scVector := ⟨.hbm, 5, rfl⟩
abbrev main_v3_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_23 : BitVec 32 := 0#32
  let c32_i32_24 : BitVec 32 := 32#32
  let v62 : BitVec 32 := Scalar.addi c0_i32_23 c32_i32_24
  let c1_i32 : BitVec 32 := 1#32
  ⟨c0_i32_23, v62, c1_i32⟩
def k0_off2 (k0_t1 : Fin k0_t1_loop.trips) : Fin 1 → Nat :=
  let c0_i32_118 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v123 : BitVec 32 := Scalar.addi c0_i32_118 v122
  let c0_i32_119 : BitVec 32 := 0#32
  let v124 : BitVec 32 := Scalar.addi v123 c0_i32_119
  let v125 : Index := Scalar.indexCast v124
  ![v125.toNat]
def k0_off3 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk1 (v126 : IVec S16 32) : Prop :=
  (∀ a x, ((![v126] : Fin 1 → IVec S16 32) a x).toNat < S64.size a) ∧
  (∀ a x, ((![v126] : Fin 1 → IVec S16 32) a x).toNat < S64.size a)
theorem k0_idx1_inb : ∀ (v126 : IVec S16 32) (k0_hw1 : k0_chk1 v126), ∀ a x, ((![v126] : Fin 1 → IVec S16 32) a x).toNat < S64.size a := fun v126 k0_hw1 => k0_hw1.1
theorem k0_idx2_inb : ∀ (v126 : IVec S16 32) (k0_hw1 : k0_chk1 v126), ∀ a x, ((![v126] : Fin 1 → IVec S16 32) a x).toNat < S64.size a := fun v126 k0_hw1 => k0_hw1.2
def k0_off4 (k0_t1 : Fin k0_t1_loop.trips) : Fin 1 → Nat :=
  let c0_i32_122 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v134 : BitVec 32 := Scalar.addi c0_i32_122 v122
  let c16_i32_123 : BitVec 32 := 16#32
  let v135 : BitVec 32 := Scalar.addi v134 c16_i32_123
  let v136 : Index := Scalar.indexCast v135
  ![v136.toNat]
def k0_off5 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk2 (v137 : IVec S16 32) : Prop :=
  (∀ a x, ((![v137] : Fin 1 → IVec S16 32) a x).toNat < S64.size a) ∧
  (∀ a x, ((![v137] : Fin 1 → IVec S16 32) a x).toNat < S64.size a)
theorem k0_idx3_inb : ∀ (v137 : IVec S16 32) (k0_hw2 : k0_chk2 v137), ∀ a x, ((![v137] : Fin 1 → IVec S16 32) a x).toNat < S64.size a := fun v137 k0_hw2 => k0_hw2.1
theorem k0_idx4_inb : ∀ (v137 : IVec S16 32) (k0_hw2 : k0_chk2 v137), ∀ a x, ((![v137] : Fin 1 → IVec S16 32) a x).toNat < S64.size a := fun v137 k0_hw2 => k0_hw2.2
def k0_off6 (k0_t1 : Fin k0_t1_loop.trips) : Fin 1 → Nat :=
  let c0_i32_126 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v145 : BitVec 32 := Scalar.addi c0_i32_126 v122
  let c32_i32_127 : BitVec 32 := 32#32
  let v146 : BitVec 32 := Scalar.addi v145 c32_i32_127
  let v147 : Index := Scalar.indexCast v146
  ![v147.toNat]
def k0_off7 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk3 (v148 : IVec S16 32) : Prop :=
  (∀ a x, ((![v148] : Fin 1 → IVec S16 32) a x).toNat < S64.size a) ∧
  (∀ a x, ((![v148] : Fin 1 → IVec S16 32) a x).toNat < S64.size a)
theorem k0_idx5_inb : ∀ (v148 : IVec S16 32) (k0_hw3 : k0_chk3 v148), ∀ a x, ((![v148] : Fin 1 → IVec S16 32) a x).toNat < S64.size a := fun v148 k0_hw3 => k0_hw3.1
theorem k0_idx6_inb : ∀ (v148 : IVec S16 32) (k0_hw3 : k0_chk3 v148), ∀ a x, ((![v148] : Fin 1 → IVec S16 32) a x).toNat < S64.size a := fun v148 k0_hw3 => k0_hw3.2
def k0_off8 (k0_t1 : Fin k0_t1_loop.trips) : Fin 1 → Nat :=
  let c0_i32_130 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v156 : BitVec 32 := Scalar.addi c0_i32_130 v122
  let c48_i32_131 : BitVec 32 := 48#32
  let v157 : BitVec 32 := Scalar.addi v156 c48_i32_131
  let v158 : Index := Scalar.indexCast v157
  ![v158.toNat]
def k0_off9 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk4 (v159 : IVec S16 32) : Prop :=
  (∀ a x, ((![v159] : Fin 1 → IVec S16 32) a x).toNat < S64.size a) ∧
  (∀ a x, ((![v159] : Fin 1 → IVec S16 32) a x).toNat < S64.size a)
theorem k0_idx7_inb : ∀ (v159 : IVec S16 32) (k0_hw4 : k0_chk4 v159), ∀ a x, ((![v159] : Fin 1 → IVec S16 32) a x).toNat < S64.size a := fun v159 k0_hw4 => k0_hw4.1
theorem k0_idx8_inb : ∀ (v159 : IVec S16 32) (k0_hw4 : k0_chk4 v159), ∀ a x, ((![v159] : Fin 1 → IVec S16 32) a x).toNat < S64.size a := fun v159 k0_hw4 => k0_hw4.2
def k0_off10 (k0_t1 : Fin k0_t1_loop.trips) : Fin 1 → Nat :=
  let c0_i32_134 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v167 : BitVec 32 := Scalar.addi c0_i32_134 v122
  let c64_i32 : BitVec 32 := 64#32
  let v168 : BitVec 32 := Scalar.addi v167 c64_i32
  let v169 : Index := Scalar.indexCast v168
  ![v169.toNat]
def k0_off11 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk5 (v170 : IVec S16 32) : Prop :=
  (∀ a x, ((![v170] : Fin 1 → IVec S16 32) a x).toNat < S64.size a) ∧
  (∀ a x, ((![v170] : Fin 1 → IVec S16 32) a x).toNat < S64.size a)
theorem k0_idx9_inb : ∀ (v170 : IVec S16 32) (k0_hw5 : k0_chk5 v170), ∀ a x, ((![v170] : Fin 1 → IVec S16 32) a x).toNat < S64.size a := fun v170 k0_hw5 => k0_hw5.1
theorem k0_idx10_inb : ∀ (v170 : IVec S16 32) (k0_hw5 : k0_chk5 v170), ∀ a x, ((![v170] : Fin 1 → IVec S16 32) a x).toNat < S64.size a := fun v170 k0_hw5 => k0_hw5.2
def k0_off12 (k0_t1 : Fin k0_t1_loop.trips) : Fin 1 → Nat :=
  let c0_i32_137 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v178 : BitVec 32 := Scalar.addi c0_i32_137 v122
  let c80_i32 : BitVec 32 := 80#32
  let v179 : BitVec 32 := Scalar.addi v178 c80_i32
  let v180 : Index := Scalar.indexCast v179
  ![v180.toNat]
def k0_off13 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk6 (v181 : IVec S16 32) : Prop :=
  (∀ a x, ((![v181] : Fin 1 → IVec S16 32) a x).toNat < S64.size a) ∧
  (∀ a x, ((![v181] : Fin 1 → IVec S16 32) a x).toNat < S64.size a)
theorem k0_idx11_inb : ∀ (v181 : IVec S16 32) (k0_hw6 : k0_chk6 v181), ∀ a x, ((![v181] : Fin 1 → IVec S16 32) a x).toNat < S64.size a := fun v181 k0_hw6 => k0_hw6.1
theorem k0_idx12_inb : ∀ (v181 : IVec S16 32) (k0_hw6 : k0_chk6 v181), ∀ a x, ((![v181] : Fin 1 → IVec S16 32) a x).toNat < S64.size a := fun v181 k0_hw6 => k0_hw6.2
def k0_off14 (k0_t1 : Fin k0_t1_loop.trips) : Fin 1 → Nat :=
  let c0_i32_140 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v189 : BitVec 32 := Scalar.addi c0_i32_140 v122
  let c96_i32 : BitVec 32 := 96#32
  let v190 : BitVec 32 := Scalar.addi v189 c96_i32
  let v191 : Index := Scalar.indexCast v190
  ![v191.toNat]
def k0_off15 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk7 (v192 : IVec S16 32) : Prop :=
  (∀ a x, ((![v192] : Fin 1 → IVec S16 32) a x).toNat < S64.size a) ∧
  (∀ a x, ((![v192] : Fin 1 → IVec S16 32) a x).toNat < S64.size a)
theorem k0_idx13_inb : ∀ (v192 : IVec S16 32) (k0_hw7 : k0_chk7 v192), ∀ a x, ((![v192] : Fin 1 → IVec S16 32) a x).toNat < S64.size a := fun v192 k0_hw7 => k0_hw7.1
theorem k0_idx14_inb : ∀ (v192 : IVec S16 32) (k0_hw7 : k0_chk7 v192), ∀ a x, ((![v192] : Fin 1 → IVec S16 32) a x).toNat < S64.size a := fun v192 k0_hw7 => k0_hw7.2
def k0_off16 (k0_t1 : Fin k0_t1_loop.trips) : Fin 1 → Nat :=
  let c0_i32_143 : BitVec 32 := 0#32
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let v200 : BitVec 32 := Scalar.addi c0_i32_143 v122
  let c112_i32 : BitVec 32 := 112#32
  let v201 : BitVec 32 := Scalar.addi v200 c112_i32
  let v202 : Index := Scalar.indexCast v201
  ![v202.toNat]
def k0_off17 (k0_t1 : Fin k0_t1_loop.trips) : Fin 1 → Nat :=
  let c0_i32_23 : BitVec 32 := 0#32
  let c1_i32 : BitVec 32 := 1#32
  let arg16 : BitVec 32 := Scf.iv c0_i32_23 c1_i32 k0_t1
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk8 (v203 : IVec S16 32) : Prop :=
  (∀ a x, ((![v203] : Fin 1 → IVec S16 32) a x).toNat < S64.size a) ∧
  (∀ a x, ((![v203] : Fin 1 → IVec S16 32) a x).toNat < S64.size a)
theorem k0_idx15_inb : ∀ (v203 : IVec S16 32) (k0_hw8 : k0_chk8 v203), ∀ a x, ((![v203] : Fin 1 → IVec S16 32) a x).toNat < S64.size a := fun v203 k0_hw8 => k0_hw8.1
theorem k0_idx16_inb : ∀ (v203 : IVec S16 32) (k0_hw8 : k0_chk8 v203), ∀ a x, ((![v203] : Fin 1 → IVec S16 32) a x).toNat < S64.size a := fun v203 k0_hw8 => k0_hw8.2
@[reducible] def k0_t2_loop : Scf.Loop 32 :=
  let c0_i32_29 : BitVec 32 := 0#32
  let c32_i32_30 : BitVec 32 := 32#32
  let v66 : BitVec 32 := Scalar.addi c0_i32_29 c32_i32_30
  let c1_i32_31 : BitVec 32 := 1#32
  ⟨c0_i32_29, v66, c1_i32_31⟩
def k0_off18 (k0_t2 : Fin k0_t2_loop.trips) : Fin 1 → Nat :=
  let c4096_i32_118 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v123 : BitVec 32 := Scalar.addi c4096_i32_118 v122
  let c0_i32_119 : BitVec 32 := 0#32
  let v124 : BitVec 32 := Scalar.addi v123 c0_i32_119
  let v125 : Index := Scalar.indexCast v124
  ![v125.toNat]
def k0_off19 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk9 (v126 : IVec S16 32) : Prop :=
  (∀ a x, ((![v126] : Fin 1 → IVec S16 32) a x).toNat < S64.size a) ∧
  (∀ a x, ((![v126] : Fin 1 → IVec S16 32) a x).toNat < S64.size a)
theorem k0_idx17_inb : ∀ (v126 : IVec S16 32) (k0_hw9 : k0_chk9 v126), ∀ a x, ((![v126] : Fin 1 → IVec S16 32) a x).toNat < S64.size a := fun v126 k0_hw9 => k0_hw9.1
theorem k0_idx18_inb : ∀ (v126 : IVec S16 32) (k0_hw9 : k0_chk9 v126), ∀ a x, ((![v126] : Fin 1 → IVec S16 32) a x).toNat < S64.size a := fun v126 k0_hw9 => k0_hw9.2
def k0_off20 (k0_t2 : Fin k0_t2_loop.trips) : Fin 1 → Nat :=
  let c4096_i32_122 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v134 : BitVec 32 := Scalar.addi c4096_i32_122 v122
  let c16_i32_123 : BitVec 32 := 16#32
  let v135 : BitVec 32 := Scalar.addi v134 c16_i32_123
  let v136 : Index := Scalar.indexCast v135
  ![v136.toNat]
def k0_off21 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk10 (v137 : IVec S16 32) : Prop :=
  (∀ a x, ((![v137] : Fin 1 → IVec S16 32) a x).toNat < S64.size a) ∧
  (∀ a x, ((![v137] : Fin 1 → IVec S16 32) a x).toNat < S64.size a)
theorem k0_idx19_inb : ∀ (v137 : IVec S16 32) (k0_hw10 : k0_chk10 v137), ∀ a x, ((![v137] : Fin 1 → IVec S16 32) a x).toNat < S64.size a := fun v137 k0_hw10 => k0_hw10.1
theorem k0_idx20_inb : ∀ (v137 : IVec S16 32) (k0_hw10 : k0_chk10 v137), ∀ a x, ((![v137] : Fin 1 → IVec S16 32) a x).toNat < S64.size a := fun v137 k0_hw10 => k0_hw10.2
def k0_off22 (k0_t2 : Fin k0_t2_loop.trips) : Fin 1 → Nat :=
  let c4096_i32_126 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v145 : BitVec 32 := Scalar.addi c4096_i32_126 v122
  let c32_i32_127 : BitVec 32 := 32#32
  let v146 : BitVec 32 := Scalar.addi v145 c32_i32_127
  let v147 : Index := Scalar.indexCast v146
  ![v147.toNat]
def k0_off23 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk11 (v148 : IVec S16 32) : Prop :=
  (∀ a x, ((![v148] : Fin 1 → IVec S16 32) a x).toNat < S64.size a) ∧
  (∀ a x, ((![v148] : Fin 1 → IVec S16 32) a x).toNat < S64.size a)
theorem k0_idx21_inb : ∀ (v148 : IVec S16 32) (k0_hw11 : k0_chk11 v148), ∀ a x, ((![v148] : Fin 1 → IVec S16 32) a x).toNat < S64.size a := fun v148 k0_hw11 => k0_hw11.1
theorem k0_idx22_inb : ∀ (v148 : IVec S16 32) (k0_hw11 : k0_chk11 v148), ∀ a x, ((![v148] : Fin 1 → IVec S16 32) a x).toNat < S64.size a := fun v148 k0_hw11 => k0_hw11.2
def k0_off24 (k0_t2 : Fin k0_t2_loop.trips) : Fin 1 → Nat :=
  let c4096_i32_130 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v156 : BitVec 32 := Scalar.addi c4096_i32_130 v122
  let c48_i32_131 : BitVec 32 := 48#32
  let v157 : BitVec 32 := Scalar.addi v156 c48_i32_131
  let v158 : Index := Scalar.indexCast v157
  ![v158.toNat]
def k0_off25 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk12 (v159 : IVec S16 32) : Prop :=
  (∀ a x, ((![v159] : Fin 1 → IVec S16 32) a x).toNat < S64.size a) ∧
  (∀ a x, ((![v159] : Fin 1 → IVec S16 32) a x).toNat < S64.size a)
theorem k0_idx23_inb : ∀ (v159 : IVec S16 32) (k0_hw12 : k0_chk12 v159), ∀ a x, ((![v159] : Fin 1 → IVec S16 32) a x).toNat < S64.size a := fun v159 k0_hw12 => k0_hw12.1
theorem k0_idx24_inb : ∀ (v159 : IVec S16 32) (k0_hw12 : k0_chk12 v159), ∀ a x, ((![v159] : Fin 1 → IVec S16 32) a x).toNat < S64.size a := fun v159 k0_hw12 => k0_hw12.2
def k0_off26 (k0_t2 : Fin k0_t2_loop.trips) : Fin 1 → Nat :=
  let c4096_i32_134 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v167 : BitVec 32 := Scalar.addi c4096_i32_134 v122
  let c64_i32 : BitVec 32 := 64#32
  let v168 : BitVec 32 := Scalar.addi v167 c64_i32
  let v169 : Index := Scalar.indexCast v168
  ![v169.toNat]
def k0_off27 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk13 (v170 : IVec S16 32) : Prop :=
  (∀ a x, ((![v170] : Fin 1 → IVec S16 32) a x).toNat < S64.size a) ∧
  (∀ a x, ((![v170] : Fin 1 → IVec S16 32) a x).toNat < S64.size a)
theorem k0_idx25_inb : ∀ (v170 : IVec S16 32) (k0_hw13 : k0_chk13 v170), ∀ a x, ((![v170] : Fin 1 → IVec S16 32) a x).toNat < S64.size a := fun v170 k0_hw13 => k0_hw13.1
theorem k0_idx26_inb : ∀ (v170 : IVec S16 32) (k0_hw13 : k0_chk13 v170), ∀ a x, ((![v170] : Fin 1 → IVec S16 32) a x).toNat < S64.size a := fun v170 k0_hw13 => k0_hw13.2
def k0_off28 (k0_t2 : Fin k0_t2_loop.trips) : Fin 1 → Nat :=
  let c4096_i32_137 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v178 : BitVec 32 := Scalar.addi c4096_i32_137 v122
  let c80_i32 : BitVec 32 := 80#32
  let v179 : BitVec 32 := Scalar.addi v178 c80_i32
  let v180 : Index := Scalar.indexCast v179
  ![v180.toNat]
def k0_off29 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk14 (v181 : IVec S16 32) : Prop :=
  (∀ a x, ((![v181] : Fin 1 → IVec S16 32) a x).toNat < S64.size a) ∧
  (∀ a x, ((![v181] : Fin 1 → IVec S16 32) a x).toNat < S64.size a)
theorem k0_idx27_inb : ∀ (v181 : IVec S16 32) (k0_hw14 : k0_chk14 v181), ∀ a x, ((![v181] : Fin 1 → IVec S16 32) a x).toNat < S64.size a := fun v181 k0_hw14 => k0_hw14.1
theorem k0_idx28_inb : ∀ (v181 : IVec S16 32) (k0_hw14 : k0_chk14 v181), ∀ a x, ((![v181] : Fin 1 → IVec S16 32) a x).toNat < S64.size a := fun v181 k0_hw14 => k0_hw14.2
def k0_off30 (k0_t2 : Fin k0_t2_loop.trips) : Fin 1 → Nat :=
  let c4096_i32_140 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v189 : BitVec 32 := Scalar.addi c4096_i32_140 v122
  let c96_i32 : BitVec 32 := 96#32
  let v190 : BitVec 32 := Scalar.addi v189 c96_i32
  let v191 : Index := Scalar.indexCast v190
  ![v191.toNat]
def k0_off31 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk15 (v192 : IVec S16 32) : Prop :=
  (∀ a x, ((![v192] : Fin 1 → IVec S16 32) a x).toNat < S64.size a) ∧
  (∀ a x, ((![v192] : Fin 1 → IVec S16 32) a x).toNat < S64.size a)
theorem k0_idx29_inb : ∀ (v192 : IVec S16 32) (k0_hw15 : k0_chk15 v192), ∀ a x, ((![v192] : Fin 1 → IVec S16 32) a x).toNat < S64.size a := fun v192 k0_hw15 => k0_hw15.1
theorem k0_idx30_inb : ∀ (v192 : IVec S16 32) (k0_hw15 : k0_chk15 v192), ∀ a x, ((![v192] : Fin 1 → IVec S16 32) a x).toNat < S64.size a := fun v192 k0_hw15 => k0_hw15.2
def k0_off32 (k0_t2 : Fin k0_t2_loop.trips) : Fin 1 → Nat :=
  let c4096_i32_143 : BitVec 32 := 4096#32
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let v200 : BitVec 32 := Scalar.addi c4096_i32_143 v122
  let c112_i32 : BitVec 32 := 112#32
  let v201 : BitVec 32 := Scalar.addi v200 c112_i32
  let v202 : Index := Scalar.indexCast v201
  ![v202.toNat]
def k0_off33 (k0_t2 : Fin k0_t2_loop.trips) : Fin 1 → Nat :=
  let c0_i32_29 : BitVec 32 := 0#32
  let c1_i32_31 : BitVec 32 := 1#32
  let arg16 : BitVec 32 := Scf.iv c0_i32_29 c1_i32_31 k0_t2
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk16 (v203 : IVec S16 32) : Prop :=
  (∀ a x, ((![v203] : Fin 1 → IVec S16 32) a x).toNat < S64.size a) ∧
  (∀ a x, ((![v203] : Fin 1 → IVec S16 32) a x).toNat < S64.size a)
theorem k0_idx31_inb : ∀ (v203 : IVec S16 32) (k0_hw16 : k0_chk16 v203), ∀ a x, ((![v203] : Fin 1 → IVec S16 32) a x).toNat < S64.size a := fun v203 k0_hw16 => k0_hw16.1
theorem k0_idx32_inb : ∀ (v203 : IVec S16 32) (k0_hw16 : k0_chk16 v203), ∀ a x, ((![v203] : Fin 1 → IVec S16 32) a x).toNat < S64.size a := fun v203 k0_hw16 => k0_hw16.2
@[reducible] def k0_t3_loop : Scf.Loop 32 :=
  let c0_i32_35 : BitVec 32 := 0#32
  let c32_i32_36 : BitVec 32 := 32#32
  let v69 : BitVec 32 := Scalar.addi c0_i32_35 c32_i32_36
  let c1_i32_37 : BitVec 32 := 1#32
  ⟨c0_i32_35, v69, c1_i32_37⟩
def k0_off34 (k0_t3 : Fin k0_t3_loop.trips) (c0_i32_118 : BitVec 32) : Fin 1 → Nat :=
  let c0_i32_35 : BitVec 32 := 0#32
  let c1_i32_37 : BitVec 32 := 1#32
  let arg16 : BitVec 32 := Scf.iv c0_i32_35 c1_i32_37 k0_t3
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t4_loop : Scf.Loop 32 :=
  let c0_i32_41 : BitVec 32 := 0#32
  let c32_i32_42 : BitVec 32 := 32#32
  let v73 : BitVec 32 := Scalar.addi c0_i32_41 c32_i32_42
  let c1_i32_43 : BitVec 32 := 1#32
  ⟨c0_i32_41, v73, c1_i32_43⟩
def k0_off35 (k0_t4 : Fin k0_t4_loop.trips) : Fin 1 → Nat :=
  let c8192_i32_118 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v123 : BitVec 32 := Scalar.addi c8192_i32_118 v122
  let c0_i32_119 : BitVec 32 := 0#32
  let v124 : BitVec 32 := Scalar.addi v123 c0_i32_119
  let v125 : Index := Scalar.indexCast v124
  ![v125.toNat]
def k0_off36 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk17 (v126 : IVec S16 32) : Prop :=
  (∀ a x, ((![v126] : Fin 1 → IVec S16 32) a x).toNat < S64.size a) ∧
  (∀ a x, ((![v126] : Fin 1 → IVec S16 32) a x).toNat < S64.size a)
theorem k0_idx33_inb : ∀ (v126 : IVec S16 32) (k0_hw17 : k0_chk17 v126), ∀ a x, ((![v126] : Fin 1 → IVec S16 32) a x).toNat < S64.size a := fun v126 k0_hw17 => k0_hw17.1
theorem k0_idx34_inb : ∀ (v126 : IVec S16 32) (k0_hw17 : k0_chk17 v126), ∀ a x, ((![v126] : Fin 1 → IVec S16 32) a x).toNat < S64.size a := fun v126 k0_hw17 => k0_hw17.2
def k0_off37 (k0_t4 : Fin k0_t4_loop.trips) : Fin 1 → Nat :=
  let c8192_i32_122 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v134 : BitVec 32 := Scalar.addi c8192_i32_122 v122
  let c16_i32_123 : BitVec 32 := 16#32
  let v135 : BitVec 32 := Scalar.addi v134 c16_i32_123
  let v136 : Index := Scalar.indexCast v135
  ![v136.toNat]
def k0_off38 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk18 (v137 : IVec S16 32) : Prop :=
  (∀ a x, ((![v137] : Fin 1 → IVec S16 32) a x).toNat < S64.size a) ∧
  (∀ a x, ((![v137] : Fin 1 → IVec S16 32) a x).toNat < S64.size a)
theorem k0_idx35_inb : ∀ (v137 : IVec S16 32) (k0_hw18 : k0_chk18 v137), ∀ a x, ((![v137] : Fin 1 → IVec S16 32) a x).toNat < S64.size a := fun v137 k0_hw18 => k0_hw18.1
theorem k0_idx36_inb : ∀ (v137 : IVec S16 32) (k0_hw18 : k0_chk18 v137), ∀ a x, ((![v137] : Fin 1 → IVec S16 32) a x).toNat < S64.size a := fun v137 k0_hw18 => k0_hw18.2
def k0_off39 (k0_t4 : Fin k0_t4_loop.trips) : Fin 1 → Nat :=
  let c8192_i32_126 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v145 : BitVec 32 := Scalar.addi c8192_i32_126 v122
  let c32_i32_127 : BitVec 32 := 32#32
  let v146 : BitVec 32 := Scalar.addi v145 c32_i32_127
  let v147 : Index := Scalar.indexCast v146
  ![v147.toNat]
def k0_off40 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk19 (v148 : IVec S16 32) : Prop :=
  (∀ a x, ((![v148] : Fin 1 → IVec S16 32) a x).toNat < S64.size a) ∧
  (∀ a x, ((![v148] : Fin 1 → IVec S16 32) a x).toNat < S64.size a)
theorem k0_idx37_inb : ∀ (v148 : IVec S16 32) (k0_hw19 : k0_chk19 v148), ∀ a x, ((![v148] : Fin 1 → IVec S16 32) a x).toNat < S64.size a := fun v148 k0_hw19 => k0_hw19.1
theorem k0_idx38_inb : ∀ (v148 : IVec S16 32) (k0_hw19 : k0_chk19 v148), ∀ a x, ((![v148] : Fin 1 → IVec S16 32) a x).toNat < S64.size a := fun v148 k0_hw19 => k0_hw19.2
def k0_off41 (k0_t4 : Fin k0_t4_loop.trips) : Fin 1 → Nat :=
  let c8192_i32_130 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v156 : BitVec 32 := Scalar.addi c8192_i32_130 v122
  let c48_i32_131 : BitVec 32 := 48#32
  let v157 : BitVec 32 := Scalar.addi v156 c48_i32_131
  let v158 : Index := Scalar.indexCast v157
  ![v158.toNat]
def k0_off42 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk20 (v159 : IVec S16 32) : Prop :=
  (∀ a x, ((![v159] : Fin 1 → IVec S16 32) a x).toNat < S64.size a) ∧
  (∀ a x, ((![v159] : Fin 1 → IVec S16 32) a x).toNat < S64.size a)
theorem k0_idx39_inb : ∀ (v159 : IVec S16 32) (k0_hw20 : k0_chk20 v159), ∀ a x, ((![v159] : Fin 1 → IVec S16 32) a x).toNat < S64.size a := fun v159 k0_hw20 => k0_hw20.1
theorem k0_idx40_inb : ∀ (v159 : IVec S16 32) (k0_hw20 : k0_chk20 v159), ∀ a x, ((![v159] : Fin 1 → IVec S16 32) a x).toNat < S64.size a := fun v159 k0_hw20 => k0_hw20.2
def k0_off43 (k0_t4 : Fin k0_t4_loop.trips) : Fin 1 → Nat :=
  let c8192_i32_134 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v167 : BitVec 32 := Scalar.addi c8192_i32_134 v122
  let c64_i32 : BitVec 32 := 64#32
  let v168 : BitVec 32 := Scalar.addi v167 c64_i32
  let v169 : Index := Scalar.indexCast v168
  ![v169.toNat]
def k0_off44 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk21 (v170 : IVec S16 32) : Prop :=
  (∀ a x, ((![v170] : Fin 1 → IVec S16 32) a x).toNat < S64.size a) ∧
  (∀ a x, ((![v170] : Fin 1 → IVec S16 32) a x).toNat < S64.size a)
theorem k0_idx41_inb : ∀ (v170 : IVec S16 32) (k0_hw21 : k0_chk21 v170), ∀ a x, ((![v170] : Fin 1 → IVec S16 32) a x).toNat < S64.size a := fun v170 k0_hw21 => k0_hw21.1
theorem k0_idx42_inb : ∀ (v170 : IVec S16 32) (k0_hw21 : k0_chk21 v170), ∀ a x, ((![v170] : Fin 1 → IVec S16 32) a x).toNat < S64.size a := fun v170 k0_hw21 => k0_hw21.2
def k0_off45 (k0_t4 : Fin k0_t4_loop.trips) : Fin 1 → Nat :=
  let c8192_i32_137 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v178 : BitVec 32 := Scalar.addi c8192_i32_137 v122
  let c80_i32 : BitVec 32 := 80#32
  let v179 : BitVec 32 := Scalar.addi v178 c80_i32
  let v180 : Index := Scalar.indexCast v179
  ![v180.toNat]
def k0_off46 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk22 (v181 : IVec S16 32) : Prop :=
  (∀ a x, ((![v181] : Fin 1 → IVec S16 32) a x).toNat < S64.size a) ∧
  (∀ a x, ((![v181] : Fin 1 → IVec S16 32) a x).toNat < S64.size a)
theorem k0_idx43_inb : ∀ (v181 : IVec S16 32) (k0_hw22 : k0_chk22 v181), ∀ a x, ((![v181] : Fin 1 → IVec S16 32) a x).toNat < S64.size a := fun v181 k0_hw22 => k0_hw22.1
theorem k0_idx44_inb : ∀ (v181 : IVec S16 32) (k0_hw22 : k0_chk22 v181), ∀ a x, ((![v181] : Fin 1 → IVec S16 32) a x).toNat < S64.size a := fun v181 k0_hw22 => k0_hw22.2
def k0_off47 (k0_t4 : Fin k0_t4_loop.trips) : Fin 1 → Nat :=
  let c8192_i32_140 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v189 : BitVec 32 := Scalar.addi c8192_i32_140 v122
  let c96_i32 : BitVec 32 := 96#32
  let v190 : BitVec 32 := Scalar.addi v189 c96_i32
  let v191 : Index := Scalar.indexCast v190
  ![v191.toNat]
def k0_off48 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk23 (v192 : IVec S16 32) : Prop :=
  (∀ a x, ((![v192] : Fin 1 → IVec S16 32) a x).toNat < S64.size a) ∧
  (∀ a x, ((![v192] : Fin 1 → IVec S16 32) a x).toNat < S64.size a)
theorem k0_idx45_inb : ∀ (v192 : IVec S16 32) (k0_hw23 : k0_chk23 v192), ∀ a x, ((![v192] : Fin 1 → IVec S16 32) a x).toNat < S64.size a := fun v192 k0_hw23 => k0_hw23.1
theorem k0_idx46_inb : ∀ (v192 : IVec S16 32) (k0_hw23 : k0_chk23 v192), ∀ a x, ((![v192] : Fin 1 → IVec S16 32) a x).toNat < S64.size a := fun v192 k0_hw23 => k0_hw23.2
def k0_off49 (k0_t4 : Fin k0_t4_loop.trips) : Fin 1 → Nat :=
  let c8192_i32_143 : BitVec 32 := 8192#32
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let v200 : BitVec 32 := Scalar.addi c8192_i32_143 v122
  let c112_i32 : BitVec 32 := 112#32
  let v201 : BitVec 32 := Scalar.addi v200 c112_i32
  let v202 : Index := Scalar.indexCast v201
  ![v202.toNat]
def k0_off50 (k0_t4 : Fin k0_t4_loop.trips) : Fin 1 → Nat :=
  let c0_i32_41 : BitVec 32 := 0#32
  let c1_i32_43 : BitVec 32 := 1#32
  let arg16 : BitVec 32 := Scf.iv c0_i32_41 c1_i32_43 k0_t4
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk24 (v203 : IVec S16 32) : Prop :=
  (∀ a x, ((![v203] : Fin 1 → IVec S16 32) a x).toNat < S64.size a) ∧
  (∀ a x, ((![v203] : Fin 1 → IVec S16 32) a x).toNat < S64.size a)
theorem k0_idx47_inb : ∀ (v203 : IVec S16 32) (k0_hw24 : k0_chk24 v203), ∀ a x, ((![v203] : Fin 1 → IVec S16 32) a x).toNat < S64.size a := fun v203 k0_hw24 => k0_hw24.1
theorem k0_idx48_inb : ∀ (v203 : IVec S16 32) (k0_hw24 : k0_chk24 v203), ∀ a x, ((![v203] : Fin 1 → IVec S16 32) a x).toNat < S64.size a := fun v203 k0_hw24 => k0_hw24.2
@[reducible] def k0_t5_loop : Scf.Loop 32 :=
  let c0_i32_47 : BitVec 32 := 0#32
  let c32_i32_48 : BitVec 32 := 32#32
  let v76 : BitVec 32 := Scalar.addi c0_i32_47 c32_i32_48
  let c1_i32_49 : BitVec 32 := 1#32
  ⟨c0_i32_47, v76, c1_i32_49⟩
def k0_off51 (k0_t5 : Fin k0_t5_loop.trips) (c0_i32_118 : BitVec 32) : Fin 1 → Nat :=
  let c0_i32_47 : BitVec 32 := 0#32
  let c1_i32_49 : BitVec 32 := 1#32
  let arg16 : BitVec 32 := Scf.iv c0_i32_47 c1_i32_49 k0_t5
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t6_loop : Scf.Loop 32 :=
  let c0_i32_53 : BitVec 32 := 0#32
  let c32_i32_54 : BitVec 32 := 32#32
  let v80 : BitVec 32 := Scalar.addi c0_i32_53 c32_i32_54
  let c1_i32_55 : BitVec 32 := 1#32
  ⟨c0_i32_53, v80, c1_i32_55⟩
def k0_off52 (k0_t6 : Fin k0_t6_loop.trips) : Fin 1 → Nat :=
  let c12288_i32_118 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v123 : BitVec 32 := Scalar.addi c12288_i32_118 v122
  let c0_i32_119 : BitVec 32 := 0#32
  let v124 : BitVec 32 := Scalar.addi v123 c0_i32_119
  let v125 : Index := Scalar.indexCast v124
  ![v125.toNat]
def k0_off53 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk25 (v126 : IVec S16 32) : Prop :=
  (∀ a x, ((![v126] : Fin 1 → IVec S16 32) a x).toNat < S64.size a) ∧
  (∀ a x, ((![v126] : Fin 1 → IVec S16 32) a x).toNat < S64.size a)
theorem k0_idx49_inb : ∀ (v126 : IVec S16 32) (k0_hw25 : k0_chk25 v126), ∀ a x, ((![v126] : Fin 1 → IVec S16 32) a x).toNat < S64.size a := fun v126 k0_hw25 => k0_hw25.1
theorem k0_idx50_inb : ∀ (v126 : IVec S16 32) (k0_hw25 : k0_chk25 v126), ∀ a x, ((![v126] : Fin 1 → IVec S16 32) a x).toNat < S64.size a := fun v126 k0_hw25 => k0_hw25.2
def k0_off54 (k0_t6 : Fin k0_t6_loop.trips) : Fin 1 → Nat :=
  let c12288_i32_122 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v134 : BitVec 32 := Scalar.addi c12288_i32_122 v122
  let c16_i32_123 : BitVec 32 := 16#32
  let v135 : BitVec 32 := Scalar.addi v134 c16_i32_123
  let v136 : Index := Scalar.indexCast v135
  ![v136.toNat]
def k0_off55 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk26 (v137 : IVec S16 32) : Prop :=
  (∀ a x, ((![v137] : Fin 1 → IVec S16 32) a x).toNat < S64.size a) ∧
  (∀ a x, ((![v137] : Fin 1 → IVec S16 32) a x).toNat < S64.size a)
theorem k0_idx51_inb : ∀ (v137 : IVec S16 32) (k0_hw26 : k0_chk26 v137), ∀ a x, ((![v137] : Fin 1 → IVec S16 32) a x).toNat < S64.size a := fun v137 k0_hw26 => k0_hw26.1
theorem k0_idx52_inb : ∀ (v137 : IVec S16 32) (k0_hw26 : k0_chk26 v137), ∀ a x, ((![v137] : Fin 1 → IVec S16 32) a x).toNat < S64.size a := fun v137 k0_hw26 => k0_hw26.2
def k0_off56 (k0_t6 : Fin k0_t6_loop.trips) : Fin 1 → Nat :=
  let c12288_i32_126 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v145 : BitVec 32 := Scalar.addi c12288_i32_126 v122
  let c32_i32_127 : BitVec 32 := 32#32
  let v146 : BitVec 32 := Scalar.addi v145 c32_i32_127
  let v147 : Index := Scalar.indexCast v146
  ![v147.toNat]
def k0_off57 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk27 (v148 : IVec S16 32) : Prop :=
  (∀ a x, ((![v148] : Fin 1 → IVec S16 32) a x).toNat < S64.size a) ∧
  (∀ a x, ((![v148] : Fin 1 → IVec S16 32) a x).toNat < S64.size a)
theorem k0_idx53_inb : ∀ (v148 : IVec S16 32) (k0_hw27 : k0_chk27 v148), ∀ a x, ((![v148] : Fin 1 → IVec S16 32) a x).toNat < S64.size a := fun v148 k0_hw27 => k0_hw27.1
theorem k0_idx54_inb : ∀ (v148 : IVec S16 32) (k0_hw27 : k0_chk27 v148), ∀ a x, ((![v148] : Fin 1 → IVec S16 32) a x).toNat < S64.size a := fun v148 k0_hw27 => k0_hw27.2
def k0_off58 (k0_t6 : Fin k0_t6_loop.trips) : Fin 1 → Nat :=
  let c12288_i32_130 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v156 : BitVec 32 := Scalar.addi c12288_i32_130 v122
  let c48_i32_131 : BitVec 32 := 48#32
  let v157 : BitVec 32 := Scalar.addi v156 c48_i32_131
  let v158 : Index := Scalar.indexCast v157
  ![v158.toNat]
def k0_off59 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk28 (v159 : IVec S16 32) : Prop :=
  (∀ a x, ((![v159] : Fin 1 → IVec S16 32) a x).toNat < S64.size a) ∧
  (∀ a x, ((![v159] : Fin 1 → IVec S16 32) a x).toNat < S64.size a)
theorem k0_idx55_inb : ∀ (v159 : IVec S16 32) (k0_hw28 : k0_chk28 v159), ∀ a x, ((![v159] : Fin 1 → IVec S16 32) a x).toNat < S64.size a := fun v159 k0_hw28 => k0_hw28.1
theorem k0_idx56_inb : ∀ (v159 : IVec S16 32) (k0_hw28 : k0_chk28 v159), ∀ a x, ((![v159] : Fin 1 → IVec S16 32) a x).toNat < S64.size a := fun v159 k0_hw28 => k0_hw28.2
def k0_off60 (k0_t6 : Fin k0_t6_loop.trips) : Fin 1 → Nat :=
  let c12288_i32_134 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v167 : BitVec 32 := Scalar.addi c12288_i32_134 v122
  let c64_i32 : BitVec 32 := 64#32
  let v168 : BitVec 32 := Scalar.addi v167 c64_i32
  let v169 : Index := Scalar.indexCast v168
  ![v169.toNat]
def k0_off61 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk29 (v170 : IVec S16 32) : Prop :=
  (∀ a x, ((![v170] : Fin 1 → IVec S16 32) a x).toNat < S64.size a) ∧
  (∀ a x, ((![v170] : Fin 1 → IVec S16 32) a x).toNat < S64.size a)
theorem k0_idx57_inb : ∀ (v170 : IVec S16 32) (k0_hw29 : k0_chk29 v170), ∀ a x, ((![v170] : Fin 1 → IVec S16 32) a x).toNat < S64.size a := fun v170 k0_hw29 => k0_hw29.1
theorem k0_idx58_inb : ∀ (v170 : IVec S16 32) (k0_hw29 : k0_chk29 v170), ∀ a x, ((![v170] : Fin 1 → IVec S16 32) a x).toNat < S64.size a := fun v170 k0_hw29 => k0_hw29.2
def k0_off62 (k0_t6 : Fin k0_t6_loop.trips) : Fin 1 → Nat :=
  let c12288_i32_137 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v178 : BitVec 32 := Scalar.addi c12288_i32_137 v122
  let c80_i32 : BitVec 32 := 80#32
  let v179 : BitVec 32 := Scalar.addi v178 c80_i32
  let v180 : Index := Scalar.indexCast v179
  ![v180.toNat]
def k0_off63 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk30 (v181 : IVec S16 32) : Prop :=
  (∀ a x, ((![v181] : Fin 1 → IVec S16 32) a x).toNat < S64.size a) ∧
  (∀ a x, ((![v181] : Fin 1 → IVec S16 32) a x).toNat < S64.size a)
theorem k0_idx59_inb : ∀ (v181 : IVec S16 32) (k0_hw30 : k0_chk30 v181), ∀ a x, ((![v181] : Fin 1 → IVec S16 32) a x).toNat < S64.size a := fun v181 k0_hw30 => k0_hw30.1
theorem k0_idx60_inb : ∀ (v181 : IVec S16 32) (k0_hw30 : k0_chk30 v181), ∀ a x, ((![v181] : Fin 1 → IVec S16 32) a x).toNat < S64.size a := fun v181 k0_hw30 => k0_hw30.2
def k0_off64 (k0_t6 : Fin k0_t6_loop.trips) : Fin 1 → Nat :=
  let c12288_i32_140 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v189 : BitVec 32 := Scalar.addi c12288_i32_140 v122
  let c96_i32 : BitVec 32 := 96#32
  let v190 : BitVec 32 := Scalar.addi v189 c96_i32
  let v191 : Index := Scalar.indexCast v190
  ![v191.toNat]
def k0_off65 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk31 (v192 : IVec S16 32) : Prop :=
  (∀ a x, ((![v192] : Fin 1 → IVec S16 32) a x).toNat < S64.size a) ∧
  (∀ a x, ((![v192] : Fin 1 → IVec S16 32) a x).toNat < S64.size a)
theorem k0_idx61_inb : ∀ (v192 : IVec S16 32) (k0_hw31 : k0_chk31 v192), ∀ a x, ((![v192] : Fin 1 → IVec S16 32) a x).toNat < S64.size a := fun v192 k0_hw31 => k0_hw31.1
theorem k0_idx62_inb : ∀ (v192 : IVec S16 32) (k0_hw31 : k0_chk31 v192), ∀ a x, ((![v192] : Fin 1 → IVec S16 32) a x).toNat < S64.size a := fun v192 k0_hw31 => k0_hw31.2
def k0_off66 (k0_t6 : Fin k0_t6_loop.trips) : Fin 1 → Nat :=
  let c12288_i32_143 : BitVec 32 := 12288#32
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let v200 : BitVec 32 := Scalar.addi c12288_i32_143 v122
  let c112_i32 : BitVec 32 := 112#32
  let v201 : BitVec 32 := Scalar.addi v200 c112_i32
  let v202 : Index := Scalar.indexCast v201
  ![v202.toNat]
def k0_off67 (k0_t6 : Fin k0_t6_loop.trips) : Fin 1 → Nat :=
  let c0_i32_53 : BitVec 32 := 0#32
  let c1_i32_55 : BitVec 32 := 1#32
  let arg16 : BitVec 32 := Scf.iv c0_i32_53 c1_i32_55 k0_t6
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk32 (v203 : IVec S16 32) : Prop :=
  (∀ a x, ((![v203] : Fin 1 → IVec S16 32) a x).toNat < S64.size a) ∧
  (∀ a x, ((![v203] : Fin 1 → IVec S16 32) a x).toNat < S64.size a)
theorem k0_idx63_inb : ∀ (v203 : IVec S16 32) (k0_hw32 : k0_chk32 v203), ∀ a x, ((![v203] : Fin 1 → IVec S16 32) a x).toNat < S64.size a := fun v203 k0_hw32 => k0_hw32.1
theorem k0_idx64_inb : ∀ (v203 : IVec S16 32) (k0_hw32 : k0_chk32 v203), ∀ a x, ((![v203] : Fin 1 → IVec S16 32) a x).toNat < S64.size a := fun v203 k0_hw32 => k0_hw32.2
@[reducible] def k0_t7_loop : Scf.Loop 32 :=
  let c0_i32_59 : BitVec 32 := 0#32
  let c32_i32_60 : BitVec 32 := 32#32
  let v83 : BitVec 32 := Scalar.addi c0_i32_59 c32_i32_60
  let c1_i32_61 : BitVec 32 := 1#32
  ⟨c0_i32_59, v83, c1_i32_61⟩
def k0_off68 (k0_t7 : Fin k0_t7_loop.trips) (c0_i32_118 : BitVec 32) : Fin 1 → Nat :=
  let c0_i32_59 : BitVec 32 := 0#32
  let c1_i32_61 : BitVec 32 := 1#32
  let arg16 : BitVec 32 := Scf.iv c0_i32_59 c1_i32_61 k0_t7
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t8_loop : Scf.Loop 32 :=
  let c0_i32_65 : BitVec 32 := 0#32
  let c32_i32_66 : BitVec 32 := 32#32
  let v87 : BitVec 32 := Scalar.addi c0_i32_65 c32_i32_66
  let c1_i32_67 : BitVec 32 := 1#32
  ⟨c0_i32_65, v87, c1_i32_67⟩
def k0_off69 (k0_t8 : Fin k0_t8_loop.trips) : Fin 1 → Nat :=
  let c16384_i32_118 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v123 : BitVec 32 := Scalar.addi c16384_i32_118 v122
  let c0_i32_119 : BitVec 32 := 0#32
  let v124 : BitVec 32 := Scalar.addi v123 c0_i32_119
  let v125 : Index := Scalar.indexCast v124
  ![v125.toNat]
def k0_off70 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk33 (v126 : IVec S16 32) : Prop :=
  (∀ a x, ((![v126] : Fin 1 → IVec S16 32) a x).toNat < S64.size a) ∧
  (∀ a x, ((![v126] : Fin 1 → IVec S16 32) a x).toNat < S64.size a)
theorem k0_idx65_inb : ∀ (v126 : IVec S16 32) (k0_hw33 : k0_chk33 v126), ∀ a x, ((![v126] : Fin 1 → IVec S16 32) a x).toNat < S64.size a := fun v126 k0_hw33 => k0_hw33.1
theorem k0_idx66_inb : ∀ (v126 : IVec S16 32) (k0_hw33 : k0_chk33 v126), ∀ a x, ((![v126] : Fin 1 → IVec S16 32) a x).toNat < S64.size a := fun v126 k0_hw33 => k0_hw33.2
def k0_off71 (k0_t8 : Fin k0_t8_loop.trips) : Fin 1 → Nat :=
  let c16384_i32_122 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v134 : BitVec 32 := Scalar.addi c16384_i32_122 v122
  let c16_i32_123 : BitVec 32 := 16#32
  let v135 : BitVec 32 := Scalar.addi v134 c16_i32_123
  let v136 : Index := Scalar.indexCast v135
  ![v136.toNat]
def k0_off72 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk34 (v137 : IVec S16 32) : Prop :=
  (∀ a x, ((![v137] : Fin 1 → IVec S16 32) a x).toNat < S64.size a) ∧
  (∀ a x, ((![v137] : Fin 1 → IVec S16 32) a x).toNat < S64.size a)
theorem k0_idx67_inb : ∀ (v137 : IVec S16 32) (k0_hw34 : k0_chk34 v137), ∀ a x, ((![v137] : Fin 1 → IVec S16 32) a x).toNat < S64.size a := fun v137 k0_hw34 => k0_hw34.1
theorem k0_idx68_inb : ∀ (v137 : IVec S16 32) (k0_hw34 : k0_chk34 v137), ∀ a x, ((![v137] : Fin 1 → IVec S16 32) a x).toNat < S64.size a := fun v137 k0_hw34 => k0_hw34.2
def k0_off73 (k0_t8 : Fin k0_t8_loop.trips) : Fin 1 → Nat :=
  let c16384_i32_126 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v145 : BitVec 32 := Scalar.addi c16384_i32_126 v122
  let c32_i32_127 : BitVec 32 := 32#32
  let v146 : BitVec 32 := Scalar.addi v145 c32_i32_127
  let v147 : Index := Scalar.indexCast v146
  ![v147.toNat]
def k0_off74 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk35 (v148 : IVec S16 32) : Prop :=
  (∀ a x, ((![v148] : Fin 1 → IVec S16 32) a x).toNat < S64.size a) ∧
  (∀ a x, ((![v148] : Fin 1 → IVec S16 32) a x).toNat < S64.size a)
theorem k0_idx69_inb : ∀ (v148 : IVec S16 32) (k0_hw35 : k0_chk35 v148), ∀ a x, ((![v148] : Fin 1 → IVec S16 32) a x).toNat < S64.size a := fun v148 k0_hw35 => k0_hw35.1
theorem k0_idx70_inb : ∀ (v148 : IVec S16 32) (k0_hw35 : k0_chk35 v148), ∀ a x, ((![v148] : Fin 1 → IVec S16 32) a x).toNat < S64.size a := fun v148 k0_hw35 => k0_hw35.2
def k0_off75 (k0_t8 : Fin k0_t8_loop.trips) : Fin 1 → Nat :=
  let c16384_i32_130 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v156 : BitVec 32 := Scalar.addi c16384_i32_130 v122
  let c48_i32_131 : BitVec 32 := 48#32
  let v157 : BitVec 32 := Scalar.addi v156 c48_i32_131
  let v158 : Index := Scalar.indexCast v157
  ![v158.toNat]
def k0_off76 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk36 (v159 : IVec S16 32) : Prop :=
  (∀ a x, ((![v159] : Fin 1 → IVec S16 32) a x).toNat < S64.size a) ∧
  (∀ a x, ((![v159] : Fin 1 → IVec S16 32) a x).toNat < S64.size a)
theorem k0_idx71_inb : ∀ (v159 : IVec S16 32) (k0_hw36 : k0_chk36 v159), ∀ a x, ((![v159] : Fin 1 → IVec S16 32) a x).toNat < S64.size a := fun v159 k0_hw36 => k0_hw36.1
theorem k0_idx72_inb : ∀ (v159 : IVec S16 32) (k0_hw36 : k0_chk36 v159), ∀ a x, ((![v159] : Fin 1 → IVec S16 32) a x).toNat < S64.size a := fun v159 k0_hw36 => k0_hw36.2
def k0_off77 (k0_t8 : Fin k0_t8_loop.trips) : Fin 1 → Nat :=
  let c16384_i32_134 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v167 : BitVec 32 := Scalar.addi c16384_i32_134 v122
  let c64_i32 : BitVec 32 := 64#32
  let v168 : BitVec 32 := Scalar.addi v167 c64_i32
  let v169 : Index := Scalar.indexCast v168
  ![v169.toNat]
def k0_off78 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk37 (v170 : IVec S16 32) : Prop :=
  (∀ a x, ((![v170] : Fin 1 → IVec S16 32) a x).toNat < S64.size a) ∧
  (∀ a x, ((![v170] : Fin 1 → IVec S16 32) a x).toNat < S64.size a)
theorem k0_idx73_inb : ∀ (v170 : IVec S16 32) (k0_hw37 : k0_chk37 v170), ∀ a x, ((![v170] : Fin 1 → IVec S16 32) a x).toNat < S64.size a := fun v170 k0_hw37 => k0_hw37.1
theorem k0_idx74_inb : ∀ (v170 : IVec S16 32) (k0_hw37 : k0_chk37 v170), ∀ a x, ((![v170] : Fin 1 → IVec S16 32) a x).toNat < S64.size a := fun v170 k0_hw37 => k0_hw37.2
def k0_off79 (k0_t8 : Fin k0_t8_loop.trips) : Fin 1 → Nat :=
  let c16384_i32_137 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v178 : BitVec 32 := Scalar.addi c16384_i32_137 v122
  let c80_i32 : BitVec 32 := 80#32
  let v179 : BitVec 32 := Scalar.addi v178 c80_i32
  let v180 : Index := Scalar.indexCast v179
  ![v180.toNat]
def k0_off80 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk38 (v181 : IVec S16 32) : Prop :=
  (∀ a x, ((![v181] : Fin 1 → IVec S16 32) a x).toNat < S64.size a) ∧
  (∀ a x, ((![v181] : Fin 1 → IVec S16 32) a x).toNat < S64.size a)
theorem k0_idx75_inb : ∀ (v181 : IVec S16 32) (k0_hw38 : k0_chk38 v181), ∀ a x, ((![v181] : Fin 1 → IVec S16 32) a x).toNat < S64.size a := fun v181 k0_hw38 => k0_hw38.1
theorem k0_idx76_inb : ∀ (v181 : IVec S16 32) (k0_hw38 : k0_chk38 v181), ∀ a x, ((![v181] : Fin 1 → IVec S16 32) a x).toNat < S64.size a := fun v181 k0_hw38 => k0_hw38.2
def k0_off81 (k0_t8 : Fin k0_t8_loop.trips) : Fin 1 → Nat :=
  let c16384_i32_140 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v189 : BitVec 32 := Scalar.addi c16384_i32_140 v122
  let c96_i32 : BitVec 32 := 96#32
  let v190 : BitVec 32 := Scalar.addi v189 c96_i32
  let v191 : Index := Scalar.indexCast v190
  ![v191.toNat]
def k0_off82 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk39 (v192 : IVec S16 32) : Prop :=
  (∀ a x, ((![v192] : Fin 1 → IVec S16 32) a x).toNat < S64.size a) ∧
  (∀ a x, ((![v192] : Fin 1 → IVec S16 32) a x).toNat < S64.size a)
theorem k0_idx77_inb : ∀ (v192 : IVec S16 32) (k0_hw39 : k0_chk39 v192), ∀ a x, ((![v192] : Fin 1 → IVec S16 32) a x).toNat < S64.size a := fun v192 k0_hw39 => k0_hw39.1
theorem k0_idx78_inb : ∀ (v192 : IVec S16 32) (k0_hw39 : k0_chk39 v192), ∀ a x, ((![v192] : Fin 1 → IVec S16 32) a x).toNat < S64.size a := fun v192 k0_hw39 => k0_hw39.2
def k0_off83 (k0_t8 : Fin k0_t8_loop.trips) : Fin 1 → Nat :=
  let c16384_i32_143 : BitVec 32 := 16384#32
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let v200 : BitVec 32 := Scalar.addi c16384_i32_143 v122
  let c112_i32 : BitVec 32 := 112#32
  let v201 : BitVec 32 := Scalar.addi v200 c112_i32
  let v202 : Index := Scalar.indexCast v201
  ![v202.toNat]
def k0_off84 (k0_t8 : Fin k0_t8_loop.trips) : Fin 1 → Nat :=
  let c0_i32_65 : BitVec 32 := 0#32
  let c1_i32_67 : BitVec 32 := 1#32
  let arg16 : BitVec 32 := Scf.iv c0_i32_65 c1_i32_67 k0_t8
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk40 (v203 : IVec S16 32) : Prop :=
  (∀ a x, ((![v203] : Fin 1 → IVec S16 32) a x).toNat < S64.size a) ∧
  (∀ a x, ((![v203] : Fin 1 → IVec S16 32) a x).toNat < S64.size a)
theorem k0_idx79_inb : ∀ (v203 : IVec S16 32) (k0_hw40 : k0_chk40 v203), ∀ a x, ((![v203] : Fin 1 → IVec S16 32) a x).toNat < S64.size a := fun v203 k0_hw40 => k0_hw40.1
theorem k0_idx80_inb : ∀ (v203 : IVec S16 32) (k0_hw40 : k0_chk40 v203), ∀ a x, ((![v203] : Fin 1 → IVec S16 32) a x).toNat < S64.size a := fun v203 k0_hw40 => k0_hw40.2
@[reducible] def k0_t9_loop : Scf.Loop 32 :=
  let c0_i32_71 : BitVec 32 := 0#32
  let c32_i32_72 : BitVec 32 := 32#32
  let v90 : BitVec 32 := Scalar.addi c0_i32_71 c32_i32_72
  let c1_i32_73 : BitVec 32 := 1#32
  ⟨c0_i32_71, v90, c1_i32_73⟩
def k0_off85 (k0_t9 : Fin k0_t9_loop.trips) (c0_i32_118 : BitVec 32) : Fin 1 → Nat :=
  let c0_i32_71 : BitVec 32 := 0#32
  let c1_i32_73 : BitVec 32 := 1#32
  let arg16 : BitVec 32 := Scf.iv c0_i32_71 c1_i32_73 k0_t9
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t10_loop : Scf.Loop 32 :=
  let c0_i32_77 : BitVec 32 := 0#32
  let c32_i32_78 : BitVec 32 := 32#32
  let v94 : BitVec 32 := Scalar.addi c0_i32_77 c32_i32_78
  let c1_i32_79 : BitVec 32 := 1#32
  ⟨c0_i32_77, v94, c1_i32_79⟩
def k0_off86 (k0_t10 : Fin k0_t10_loop.trips) : Fin 1 → Nat :=
  let c20480_i32_118 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v123 : BitVec 32 := Scalar.addi c20480_i32_118 v122
  let c0_i32_119 : BitVec 32 := 0#32
  let v124 : BitVec 32 := Scalar.addi v123 c0_i32_119
  let v125 : Index := Scalar.indexCast v124
  ![v125.toNat]
def k0_off87 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk41 (v126 : IVec S16 32) : Prop :=
  (∀ a x, ((![v126] : Fin 1 → IVec S16 32) a x).toNat < S64.size a) ∧
  (∀ a x, ((![v126] : Fin 1 → IVec S16 32) a x).toNat < S64.size a)
theorem k0_idx81_inb : ∀ (v126 : IVec S16 32) (k0_hw41 : k0_chk41 v126), ∀ a x, ((![v126] : Fin 1 → IVec S16 32) a x).toNat < S64.size a := fun v126 k0_hw41 => k0_hw41.1
theorem k0_idx82_inb : ∀ (v126 : IVec S16 32) (k0_hw41 : k0_chk41 v126), ∀ a x, ((![v126] : Fin 1 → IVec S16 32) a x).toNat < S64.size a := fun v126 k0_hw41 => k0_hw41.2
def k0_off88 (k0_t10 : Fin k0_t10_loop.trips) : Fin 1 → Nat :=
  let c20480_i32_122 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v134 : BitVec 32 := Scalar.addi c20480_i32_122 v122
  let c16_i32_123 : BitVec 32 := 16#32
  let v135 : BitVec 32 := Scalar.addi v134 c16_i32_123
  let v136 : Index := Scalar.indexCast v135
  ![v136.toNat]
def k0_off89 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk42 (v137 : IVec S16 32) : Prop :=
  (∀ a x, ((![v137] : Fin 1 → IVec S16 32) a x).toNat < S64.size a) ∧
  (∀ a x, ((![v137] : Fin 1 → IVec S16 32) a x).toNat < S64.size a)
theorem k0_idx83_inb : ∀ (v137 : IVec S16 32) (k0_hw42 : k0_chk42 v137), ∀ a x, ((![v137] : Fin 1 → IVec S16 32) a x).toNat < S64.size a := fun v137 k0_hw42 => k0_hw42.1
theorem k0_idx84_inb : ∀ (v137 : IVec S16 32) (k0_hw42 : k0_chk42 v137), ∀ a x, ((![v137] : Fin 1 → IVec S16 32) a x).toNat < S64.size a := fun v137 k0_hw42 => k0_hw42.2
def k0_off90 (k0_t10 : Fin k0_t10_loop.trips) : Fin 1 → Nat :=
  let c20480_i32_126 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v145 : BitVec 32 := Scalar.addi c20480_i32_126 v122
  let c32_i32_127 : BitVec 32 := 32#32
  let v146 : BitVec 32 := Scalar.addi v145 c32_i32_127
  let v147 : Index := Scalar.indexCast v146
  ![v147.toNat]
def k0_off91 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk43 (v148 : IVec S16 32) : Prop :=
  (∀ a x, ((![v148] : Fin 1 → IVec S16 32) a x).toNat < S64.size a) ∧
  (∀ a x, ((![v148] : Fin 1 → IVec S16 32) a x).toNat < S64.size a)
theorem k0_idx85_inb : ∀ (v148 : IVec S16 32) (k0_hw43 : k0_chk43 v148), ∀ a x, ((![v148] : Fin 1 → IVec S16 32) a x).toNat < S64.size a := fun v148 k0_hw43 => k0_hw43.1
theorem k0_idx86_inb : ∀ (v148 : IVec S16 32) (k0_hw43 : k0_chk43 v148), ∀ a x, ((![v148] : Fin 1 → IVec S16 32) a x).toNat < S64.size a := fun v148 k0_hw43 => k0_hw43.2
def k0_off92 (k0_t10 : Fin k0_t10_loop.trips) : Fin 1 → Nat :=
  let c20480_i32_130 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v156 : BitVec 32 := Scalar.addi c20480_i32_130 v122
  let c48_i32_131 : BitVec 32 := 48#32
  let v157 : BitVec 32 := Scalar.addi v156 c48_i32_131
  let v158 : Index := Scalar.indexCast v157
  ![v158.toNat]
def k0_off93 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk44 (v159 : IVec S16 32) : Prop :=
  (∀ a x, ((![v159] : Fin 1 → IVec S16 32) a x).toNat < S64.size a) ∧
  (∀ a x, ((![v159] : Fin 1 → IVec S16 32) a x).toNat < S64.size a)
theorem k0_idx87_inb : ∀ (v159 : IVec S16 32) (k0_hw44 : k0_chk44 v159), ∀ a x, ((![v159] : Fin 1 → IVec S16 32) a x).toNat < S64.size a := fun v159 k0_hw44 => k0_hw44.1
theorem k0_idx88_inb : ∀ (v159 : IVec S16 32) (k0_hw44 : k0_chk44 v159), ∀ a x, ((![v159] : Fin 1 → IVec S16 32) a x).toNat < S64.size a := fun v159 k0_hw44 => k0_hw44.2
def k0_off94 (k0_t10 : Fin k0_t10_loop.trips) : Fin 1 → Nat :=
  let c20480_i32_134 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v167 : BitVec 32 := Scalar.addi c20480_i32_134 v122
  let c64_i32 : BitVec 32 := 64#32
  let v168 : BitVec 32 := Scalar.addi v167 c64_i32
  let v169 : Index := Scalar.indexCast v168
  ![v169.toNat]
def k0_off95 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk45 (v170 : IVec S16 32) : Prop :=
  (∀ a x, ((![v170] : Fin 1 → IVec S16 32) a x).toNat < S64.size a) ∧
  (∀ a x, ((![v170] : Fin 1 → IVec S16 32) a x).toNat < S64.size a)
theorem k0_idx89_inb : ∀ (v170 : IVec S16 32) (k0_hw45 : k0_chk45 v170), ∀ a x, ((![v170] : Fin 1 → IVec S16 32) a x).toNat < S64.size a := fun v170 k0_hw45 => k0_hw45.1
theorem k0_idx90_inb : ∀ (v170 : IVec S16 32) (k0_hw45 : k0_chk45 v170), ∀ a x, ((![v170] : Fin 1 → IVec S16 32) a x).toNat < S64.size a := fun v170 k0_hw45 => k0_hw45.2
def k0_off96 (k0_t10 : Fin k0_t10_loop.trips) : Fin 1 → Nat :=
  let c20480_i32_137 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v178 : BitVec 32 := Scalar.addi c20480_i32_137 v122
  let c80_i32 : BitVec 32 := 80#32
  let v179 : BitVec 32 := Scalar.addi v178 c80_i32
  let v180 : Index := Scalar.indexCast v179
  ![v180.toNat]
def k0_off97 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk46 (v181 : IVec S16 32) : Prop :=
  (∀ a x, ((![v181] : Fin 1 → IVec S16 32) a x).toNat < S64.size a) ∧
  (∀ a x, ((![v181] : Fin 1 → IVec S16 32) a x).toNat < S64.size a)
theorem k0_idx91_inb : ∀ (v181 : IVec S16 32) (k0_hw46 : k0_chk46 v181), ∀ a x, ((![v181] : Fin 1 → IVec S16 32) a x).toNat < S64.size a := fun v181 k0_hw46 => k0_hw46.1
theorem k0_idx92_inb : ∀ (v181 : IVec S16 32) (k0_hw46 : k0_chk46 v181), ∀ a x, ((![v181] : Fin 1 → IVec S16 32) a x).toNat < S64.size a := fun v181 k0_hw46 => k0_hw46.2
def k0_off98 (k0_t10 : Fin k0_t10_loop.trips) : Fin 1 → Nat :=
  let c20480_i32_140 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v189 : BitVec 32 := Scalar.addi c20480_i32_140 v122
  let c96_i32 : BitVec 32 := 96#32
  let v190 : BitVec 32 := Scalar.addi v189 c96_i32
  let v191 : Index := Scalar.indexCast v190
  ![v191.toNat]
def k0_off99 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk47 (v192 : IVec S16 32) : Prop :=
  (∀ a x, ((![v192] : Fin 1 → IVec S16 32) a x).toNat < S64.size a) ∧
  (∀ a x, ((![v192] : Fin 1 → IVec S16 32) a x).toNat < S64.size a)
theorem k0_idx93_inb : ∀ (v192 : IVec S16 32) (k0_hw47 : k0_chk47 v192), ∀ a x, ((![v192] : Fin 1 → IVec S16 32) a x).toNat < S64.size a := fun v192 k0_hw47 => k0_hw47.1
theorem k0_idx94_inb : ∀ (v192 : IVec S16 32) (k0_hw47 : k0_chk47 v192), ∀ a x, ((![v192] : Fin 1 → IVec S16 32) a x).toNat < S64.size a := fun v192 k0_hw47 => k0_hw47.2
def k0_off100 (k0_t10 : Fin k0_t10_loop.trips) : Fin 1 → Nat :=
  let c20480_i32_143 : BitVec 32 := 20480#32
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let v200 : BitVec 32 := Scalar.addi c20480_i32_143 v122
  let c112_i32 : BitVec 32 := 112#32
  let v201 : BitVec 32 := Scalar.addi v200 c112_i32
  let v202 : Index := Scalar.indexCast v201
  ![v202.toNat]
def k0_off101 (k0_t10 : Fin k0_t10_loop.trips) : Fin 1 → Nat :=
  let c0_i32_77 : BitVec 32 := 0#32
  let c1_i32_79 : BitVec 32 := 1#32
  let arg16 : BitVec 32 := Scf.iv c0_i32_77 c1_i32_79 k0_t10
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk48 (v203 : IVec S16 32) : Prop :=
  (∀ a x, ((![v203] : Fin 1 → IVec S16 32) a x).toNat < S64.size a) ∧
  (∀ a x, ((![v203] : Fin 1 → IVec S16 32) a x).toNat < S64.size a)
theorem k0_idx95_inb : ∀ (v203 : IVec S16 32) (k0_hw48 : k0_chk48 v203), ∀ a x, ((![v203] : Fin 1 → IVec S16 32) a x).toNat < S64.size a := fun v203 k0_hw48 => k0_hw48.1
theorem k0_idx96_inb : ∀ (v203 : IVec S16 32) (k0_hw48 : k0_chk48 v203), ∀ a x, ((![v203] : Fin 1 → IVec S16 32) a x).toNat < S64.size a := fun v203 k0_hw48 => k0_hw48.2
@[reducible] def k0_t11_loop : Scf.Loop 32 :=
  let c0_i32_83 : BitVec 32 := 0#32
  let c32_i32_84 : BitVec 32 := 32#32
  let v97 : BitVec 32 := Scalar.addi c0_i32_83 c32_i32_84
  let c1_i32_85 : BitVec 32 := 1#32
  ⟨c0_i32_83, v97, c1_i32_85⟩
def k0_off102 (k0_t11 : Fin k0_t11_loop.trips) (c0_i32_118 : BitVec 32) : Fin 1 → Nat :=
  let c0_i32_83 : BitVec 32 := 0#32
  let c1_i32_85 : BitVec 32 := 1#32
  let arg16 : BitVec 32 := Scf.iv c0_i32_83 c1_i32_85 k0_t11
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t12_loop : Scf.Loop 32 :=
  let c0_i32_89 : BitVec 32 := 0#32
  let c32_i32_90 : BitVec 32 := 32#32
  let v101 : BitVec 32 := Scalar.addi c0_i32_89 c32_i32_90
  let c1_i32_91 : BitVec 32 := 1#32
  ⟨c0_i32_89, v101, c1_i32_91⟩
def k0_off103 (k0_t12 : Fin k0_t12_loop.trips) : Fin 1 → Nat :=
  let c24576_i32_118 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v123 : BitVec 32 := Scalar.addi c24576_i32_118 v122
  let c0_i32_119 : BitVec 32 := 0#32
  let v124 : BitVec 32 := Scalar.addi v123 c0_i32_119
  let v125 : Index := Scalar.indexCast v124
  ![v125.toNat]
def k0_off104 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk49 (v126 : IVec S16 32) : Prop :=
  (∀ a x, ((![v126] : Fin 1 → IVec S16 32) a x).toNat < S64.size a) ∧
  (∀ a x, ((![v126] : Fin 1 → IVec S16 32) a x).toNat < S64.size a)
theorem k0_idx97_inb : ∀ (v126 : IVec S16 32) (k0_hw49 : k0_chk49 v126), ∀ a x, ((![v126] : Fin 1 → IVec S16 32) a x).toNat < S64.size a := fun v126 k0_hw49 => k0_hw49.1
theorem k0_idx98_inb : ∀ (v126 : IVec S16 32) (k0_hw49 : k0_chk49 v126), ∀ a x, ((![v126] : Fin 1 → IVec S16 32) a x).toNat < S64.size a := fun v126 k0_hw49 => k0_hw49.2
def k0_off105 (k0_t12 : Fin k0_t12_loop.trips) : Fin 1 → Nat :=
  let c24576_i32_122 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v134 : BitVec 32 := Scalar.addi c24576_i32_122 v122
  let c16_i32_123 : BitVec 32 := 16#32
  let v135 : BitVec 32 := Scalar.addi v134 c16_i32_123
  let v136 : Index := Scalar.indexCast v135
  ![v136.toNat]
def k0_off106 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk50 (v137 : IVec S16 32) : Prop :=
  (∀ a x, ((![v137] : Fin 1 → IVec S16 32) a x).toNat < S64.size a) ∧
  (∀ a x, ((![v137] : Fin 1 → IVec S16 32) a x).toNat < S64.size a)
theorem k0_idx99_inb : ∀ (v137 : IVec S16 32) (k0_hw50 : k0_chk50 v137), ∀ a x, ((![v137] : Fin 1 → IVec S16 32) a x).toNat < S64.size a := fun v137 k0_hw50 => k0_hw50.1
theorem k0_idx100_inb : ∀ (v137 : IVec S16 32) (k0_hw50 : k0_chk50 v137), ∀ a x, ((![v137] : Fin 1 → IVec S16 32) a x).toNat < S64.size a := fun v137 k0_hw50 => k0_hw50.2
def k0_off107 (k0_t12 : Fin k0_t12_loop.trips) : Fin 1 → Nat :=
  let c24576_i32_126 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v145 : BitVec 32 := Scalar.addi c24576_i32_126 v122
  let c32_i32_127 : BitVec 32 := 32#32
  let v146 : BitVec 32 := Scalar.addi v145 c32_i32_127
  let v147 : Index := Scalar.indexCast v146
  ![v147.toNat]
def k0_off108 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk51 (v148 : IVec S16 32) : Prop :=
  (∀ a x, ((![v148] : Fin 1 → IVec S16 32) a x).toNat < S64.size a) ∧
  (∀ a x, ((![v148] : Fin 1 → IVec S16 32) a x).toNat < S64.size a)
theorem k0_idx101_inb : ∀ (v148 : IVec S16 32) (k0_hw51 : k0_chk51 v148), ∀ a x, ((![v148] : Fin 1 → IVec S16 32) a x).toNat < S64.size a := fun v148 k0_hw51 => k0_hw51.1
theorem k0_idx102_inb : ∀ (v148 : IVec S16 32) (k0_hw51 : k0_chk51 v148), ∀ a x, ((![v148] : Fin 1 → IVec S16 32) a x).toNat < S64.size a := fun v148 k0_hw51 => k0_hw51.2
def k0_off109 (k0_t12 : Fin k0_t12_loop.trips) : Fin 1 → Nat :=
  let c24576_i32_130 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v156 : BitVec 32 := Scalar.addi c24576_i32_130 v122
  let c48_i32_131 : BitVec 32 := 48#32
  let v157 : BitVec 32 := Scalar.addi v156 c48_i32_131
  let v158 : Index := Scalar.indexCast v157
  ![v158.toNat]
def k0_off110 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk52 (v159 : IVec S16 32) : Prop :=
  (∀ a x, ((![v159] : Fin 1 → IVec S16 32) a x).toNat < S64.size a) ∧
  (∀ a x, ((![v159] : Fin 1 → IVec S16 32) a x).toNat < S64.size a)
theorem k0_idx103_inb : ∀ (v159 : IVec S16 32) (k0_hw52 : k0_chk52 v159), ∀ a x, ((![v159] : Fin 1 → IVec S16 32) a x).toNat < S64.size a := fun v159 k0_hw52 => k0_hw52.1
theorem k0_idx104_inb : ∀ (v159 : IVec S16 32) (k0_hw52 : k0_chk52 v159), ∀ a x, ((![v159] : Fin 1 → IVec S16 32) a x).toNat < S64.size a := fun v159 k0_hw52 => k0_hw52.2
def k0_off111 (k0_t12 : Fin k0_t12_loop.trips) : Fin 1 → Nat :=
  let c24576_i32_134 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v167 : BitVec 32 := Scalar.addi c24576_i32_134 v122
  let c64_i32 : BitVec 32 := 64#32
  let v168 : BitVec 32 := Scalar.addi v167 c64_i32
  let v169 : Index := Scalar.indexCast v168
  ![v169.toNat]
def k0_off112 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk53 (v170 : IVec S16 32) : Prop :=
  (∀ a x, ((![v170] : Fin 1 → IVec S16 32) a x).toNat < S64.size a) ∧
  (∀ a x, ((![v170] : Fin 1 → IVec S16 32) a x).toNat < S64.size a)
theorem k0_idx105_inb : ∀ (v170 : IVec S16 32) (k0_hw53 : k0_chk53 v170), ∀ a x, ((![v170] : Fin 1 → IVec S16 32) a x).toNat < S64.size a := fun v170 k0_hw53 => k0_hw53.1
theorem k0_idx106_inb : ∀ (v170 : IVec S16 32) (k0_hw53 : k0_chk53 v170), ∀ a x, ((![v170] : Fin 1 → IVec S16 32) a x).toNat < S64.size a := fun v170 k0_hw53 => k0_hw53.2
def k0_off113 (k0_t12 : Fin k0_t12_loop.trips) : Fin 1 → Nat :=
  let c24576_i32_137 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v178 : BitVec 32 := Scalar.addi c24576_i32_137 v122
  let c80_i32 : BitVec 32 := 80#32
  let v179 : BitVec 32 := Scalar.addi v178 c80_i32
  let v180 : Index := Scalar.indexCast v179
  ![v180.toNat]
def k0_off114 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk54 (v181 : IVec S16 32) : Prop :=
  (∀ a x, ((![v181] : Fin 1 → IVec S16 32) a x).toNat < S64.size a) ∧
  (∀ a x, ((![v181] : Fin 1 → IVec S16 32) a x).toNat < S64.size a)
theorem k0_idx107_inb : ∀ (v181 : IVec S16 32) (k0_hw54 : k0_chk54 v181), ∀ a x, ((![v181] : Fin 1 → IVec S16 32) a x).toNat < S64.size a := fun v181 k0_hw54 => k0_hw54.1
theorem k0_idx108_inb : ∀ (v181 : IVec S16 32) (k0_hw54 : k0_chk54 v181), ∀ a x, ((![v181] : Fin 1 → IVec S16 32) a x).toNat < S64.size a := fun v181 k0_hw54 => k0_hw54.2
def k0_off115 (k0_t12 : Fin k0_t12_loop.trips) : Fin 1 → Nat :=
  let c24576_i32_140 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v189 : BitVec 32 := Scalar.addi c24576_i32_140 v122
  let c96_i32 : BitVec 32 := 96#32
  let v190 : BitVec 32 := Scalar.addi v189 c96_i32
  let v191 : Index := Scalar.indexCast v190
  ![v191.toNat]
def k0_off116 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk55 (v192 : IVec S16 32) : Prop :=
  (∀ a x, ((![v192] : Fin 1 → IVec S16 32) a x).toNat < S64.size a) ∧
  (∀ a x, ((![v192] : Fin 1 → IVec S16 32) a x).toNat < S64.size a)
theorem k0_idx109_inb : ∀ (v192 : IVec S16 32) (k0_hw55 : k0_chk55 v192), ∀ a x, ((![v192] : Fin 1 → IVec S16 32) a x).toNat < S64.size a := fun v192 k0_hw55 => k0_hw55.1
theorem k0_idx110_inb : ∀ (v192 : IVec S16 32) (k0_hw55 : k0_chk55 v192), ∀ a x, ((![v192] : Fin 1 → IVec S16 32) a x).toNat < S64.size a := fun v192 k0_hw55 => k0_hw55.2
def k0_off117 (k0_t12 : Fin k0_t12_loop.trips) : Fin 1 → Nat :=
  let c24576_i32_143 : BitVec 32 := 24576#32
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let v200 : BitVec 32 := Scalar.addi c24576_i32_143 v122
  let c112_i32 : BitVec 32 := 112#32
  let v201 : BitVec 32 := Scalar.addi v200 c112_i32
  let v202 : Index := Scalar.indexCast v201
  ![v202.toNat]
def k0_off118 (k0_t12 : Fin k0_t12_loop.trips) : Fin 1 → Nat :=
  let c0_i32_89 : BitVec 32 := 0#32
  let c1_i32_91 : BitVec 32 := 1#32
  let arg16 : BitVec 32 := Scf.iv c0_i32_89 c1_i32_91 k0_t12
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk56 (v203 : IVec S16 32) : Prop :=
  (∀ a x, ((![v203] : Fin 1 → IVec S16 32) a x).toNat < S64.size a) ∧
  (∀ a x, ((![v203] : Fin 1 → IVec S16 32) a x).toNat < S64.size a)
theorem k0_idx111_inb : ∀ (v203 : IVec S16 32) (k0_hw56 : k0_chk56 v203), ∀ a x, ((![v203] : Fin 1 → IVec S16 32) a x).toNat < S64.size a := fun v203 k0_hw56 => k0_hw56.1
theorem k0_idx112_inb : ∀ (v203 : IVec S16 32) (k0_hw56 : k0_chk56 v203), ∀ a x, ((![v203] : Fin 1 → IVec S16 32) a x).toNat < S64.size a := fun v203 k0_hw56 => k0_hw56.2
@[reducible] def k0_t13_loop : Scf.Loop 32 :=
  let c0_i32_95 : BitVec 32 := 0#32
  let c32_i32_96 : BitVec 32 := 32#32
  let v104 : BitVec 32 := Scalar.addi c0_i32_95 c32_i32_96
  let c1_i32_97 : BitVec 32 := 1#32
  ⟨c0_i32_95, v104, c1_i32_97⟩
def k0_off119 (k0_t13 : Fin k0_t13_loop.trips) (c0_i32_118 : BitVec 32) : Fin 1 → Nat :=
  let c0_i32_95 : BitVec 32 := 0#32
  let c1_i32_97 : BitVec 32 := 1#32
  let arg16 : BitVec 32 := Scf.iv c0_i32_95 c1_i32_97 k0_t13
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t14_loop : Scf.Loop 32 :=
  let c0_i32_101 : BitVec 32 := 0#32
  let c32_i32_102 : BitVec 32 := 32#32
  let v108 : BitVec 32 := Scalar.addi c0_i32_101 c32_i32_102
  let c1_i32_103 : BitVec 32 := 1#32
  ⟨c0_i32_101, v108, c1_i32_103⟩
def k0_off120 (k0_t14 : Fin k0_t14_loop.trips) : Fin 1 → Nat :=
  let c28672_i32_118 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v123 : BitVec 32 := Scalar.addi c28672_i32_118 v122
  let c0_i32_119 : BitVec 32 := 0#32
  let v124 : BitVec 32 := Scalar.addi v123 c0_i32_119
  let v125 : Index := Scalar.indexCast v124
  ![v125.toNat]
def k0_off121 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c0_i32_120 : BitVec 32 := 0#32
  let v129 : BitVec 32 := Scalar.addi v122 c0_i32_120
  let v130 : Index := Scalar.indexCast v129
  ![v130.toNat]

def k0_chk57 (v126 : IVec S16 32) : Prop :=
  (∀ a x, ((![v126] : Fin 1 → IVec S16 32) a x).toNat < S64.size a) ∧
  (∀ a x, ((![v126] : Fin 1 → IVec S16 32) a x).toNat < S64.size a)
theorem k0_idx113_inb : ∀ (v126 : IVec S16 32) (k0_hw57 : k0_chk57 v126), ∀ a x, ((![v126] : Fin 1 → IVec S16 32) a x).toNat < S64.size a := fun v126 k0_hw57 => k0_hw57.1
theorem k0_idx114_inb : ∀ (v126 : IVec S16 32) (k0_hw57 : k0_chk57 v126), ∀ a x, ((![v126] : Fin 1 → IVec S16 32) a x).toNat < S64.size a := fun v126 k0_hw57 => k0_hw57.2
def k0_off122 (k0_t14 : Fin k0_t14_loop.trips) : Fin 1 → Nat :=
  let c28672_i32_122 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v134 : BitVec 32 := Scalar.addi c28672_i32_122 v122
  let c16_i32_123 : BitVec 32 := 16#32
  let v135 : BitVec 32 := Scalar.addi v134 c16_i32_123
  let v136 : Index := Scalar.indexCast v135
  ![v136.toNat]
def k0_off123 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c16_i32_124 : BitVec 32 := 16#32
  let v140 : BitVec 32 := Scalar.addi v122 c16_i32_124
  let v141 : Index := Scalar.indexCast v140
  ![v141.toNat]

def k0_chk58 (v137 : IVec S16 32) : Prop :=
  (∀ a x, ((![v137] : Fin 1 → IVec S16 32) a x).toNat < S64.size a) ∧
  (∀ a x, ((![v137] : Fin 1 → IVec S16 32) a x).toNat < S64.size a)
theorem k0_idx115_inb : ∀ (v137 : IVec S16 32) (k0_hw58 : k0_chk58 v137), ∀ a x, ((![v137] : Fin 1 → IVec S16 32) a x).toNat < S64.size a := fun v137 k0_hw58 => k0_hw58.1
theorem k0_idx116_inb : ∀ (v137 : IVec S16 32) (k0_hw58 : k0_chk58 v137), ∀ a x, ((![v137] : Fin 1 → IVec S16 32) a x).toNat < S64.size a := fun v137 k0_hw58 => k0_hw58.2
def k0_off124 (k0_t14 : Fin k0_t14_loop.trips) : Fin 1 → Nat :=
  let c28672_i32_126 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v145 : BitVec 32 := Scalar.addi c28672_i32_126 v122
  let c32_i32_127 : BitVec 32 := 32#32
  let v146 : BitVec 32 := Scalar.addi v145 c32_i32_127
  let v147 : Index := Scalar.indexCast v146
  ![v147.toNat]
def k0_off125 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c32_i32_128 : BitVec 32 := 32#32
  let v151 : BitVec 32 := Scalar.addi v122 c32_i32_128
  let v152 : Index := Scalar.indexCast v151
  ![v152.toNat]

def k0_chk59 (v148 : IVec S16 32) : Prop :=
  (∀ a x, ((![v148] : Fin 1 → IVec S16 32) a x).toNat < S64.size a) ∧
  (∀ a x, ((![v148] : Fin 1 → IVec S16 32) a x).toNat < S64.size a)
theorem k0_idx117_inb : ∀ (v148 : IVec S16 32) (k0_hw59 : k0_chk59 v148), ∀ a x, ((![v148] : Fin 1 → IVec S16 32) a x).toNat < S64.size a := fun v148 k0_hw59 => k0_hw59.1
theorem k0_idx118_inb : ∀ (v148 : IVec S16 32) (k0_hw59 : k0_chk59 v148), ∀ a x, ((![v148] : Fin 1 → IVec S16 32) a x).toNat < S64.size a := fun v148 k0_hw59 => k0_hw59.2
def k0_off126 (k0_t14 : Fin k0_t14_loop.trips) : Fin 1 → Nat :=
  let c28672_i32_130 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v156 : BitVec 32 := Scalar.addi c28672_i32_130 v122
  let c48_i32_131 : BitVec 32 := 48#32
  let v157 : BitVec 32 := Scalar.addi v156 c48_i32_131
  let v158 : Index := Scalar.indexCast v157
  ![v158.toNat]
def k0_off127 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c48_i32_132 : BitVec 32 := 48#32
  let v162 : BitVec 32 := Scalar.addi v122 c48_i32_132
  let v163 : Index := Scalar.indexCast v162
  ![v163.toNat]

def k0_chk60 (v159 : IVec S16 32) : Prop :=
  (∀ a x, ((![v159] : Fin 1 → IVec S16 32) a x).toNat < S64.size a) ∧
  (∀ a x, ((![v159] : Fin 1 → IVec S16 32) a x).toNat < S64.size a)
theorem k0_idx119_inb : ∀ (v159 : IVec S16 32) (k0_hw60 : k0_chk60 v159), ∀ a x, ((![v159] : Fin 1 → IVec S16 32) a x).toNat < S64.size a := fun v159 k0_hw60 => k0_hw60.1
theorem k0_idx120_inb : ∀ (v159 : IVec S16 32) (k0_hw60 : k0_chk60 v159), ∀ a x, ((![v159] : Fin 1 → IVec S16 32) a x).toNat < S64.size a := fun v159 k0_hw60 => k0_hw60.2
def k0_off128 (k0_t14 : Fin k0_t14_loop.trips) : Fin 1 → Nat :=
  let c28672_i32_134 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v167 : BitVec 32 := Scalar.addi c28672_i32_134 v122
  let c64_i32 : BitVec 32 := 64#32
  let v168 : BitVec 32 := Scalar.addi v167 c64_i32
  let v169 : Index := Scalar.indexCast v168
  ![v169.toNat]
def k0_off129 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c64_i32_135 : BitVec 32 := 64#32
  let v173 : BitVec 32 := Scalar.addi v122 c64_i32_135
  let v174 : Index := Scalar.indexCast v173
  ![v174.toNat]

def k0_chk61 (v170 : IVec S16 32) : Prop :=
  (∀ a x, ((![v170] : Fin 1 → IVec S16 32) a x).toNat < S64.size a) ∧
  (∀ a x, ((![v170] : Fin 1 → IVec S16 32) a x).toNat < S64.size a)
theorem k0_idx121_inb : ∀ (v170 : IVec S16 32) (k0_hw61 : k0_chk61 v170), ∀ a x, ((![v170] : Fin 1 → IVec S16 32) a x).toNat < S64.size a := fun v170 k0_hw61 => k0_hw61.1
theorem k0_idx122_inb : ∀ (v170 : IVec S16 32) (k0_hw61 : k0_chk61 v170), ∀ a x, ((![v170] : Fin 1 → IVec S16 32) a x).toNat < S64.size a := fun v170 k0_hw61 => k0_hw61.2
def k0_off130 (k0_t14 : Fin k0_t14_loop.trips) : Fin 1 → Nat :=
  let c28672_i32_137 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v178 : BitVec 32 := Scalar.addi c28672_i32_137 v122
  let c80_i32 : BitVec 32 := 80#32
  let v179 : BitVec 32 := Scalar.addi v178 c80_i32
  let v180 : Index := Scalar.indexCast v179
  ![v180.toNat]
def k0_off131 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c80_i32_138 : BitVec 32 := 80#32
  let v184 : BitVec 32 := Scalar.addi v122 c80_i32_138
  let v185 : Index := Scalar.indexCast v184
  ![v185.toNat]

def k0_chk62 (v181 : IVec S16 32) : Prop :=
  (∀ a x, ((![v181] : Fin 1 → IVec S16 32) a x).toNat < S64.size a) ∧
  (∀ a x, ((![v181] : Fin 1 → IVec S16 32) a x).toNat < S64.size a)
theorem k0_idx123_inb : ∀ (v181 : IVec S16 32) (k0_hw62 : k0_chk62 v181), ∀ a x, ((![v181] : Fin 1 → IVec S16 32) a x).toNat < S64.size a := fun v181 k0_hw62 => k0_hw62.1
theorem k0_idx124_inb : ∀ (v181 : IVec S16 32) (k0_hw62 : k0_chk62 v181), ∀ a x, ((![v181] : Fin 1 → IVec S16 32) a x).toNat < S64.size a := fun v181 k0_hw62 => k0_hw62.2
def k0_off132 (k0_t14 : Fin k0_t14_loop.trips) : Fin 1 → Nat :=
  let c28672_i32_140 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v189 : BitVec 32 := Scalar.addi c28672_i32_140 v122
  let c96_i32 : BitVec 32 := 96#32
  let v190 : BitVec 32 := Scalar.addi v189 c96_i32
  let v191 : Index := Scalar.indexCast v190
  ![v191.toNat]
def k0_off133 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c96_i32_141 : BitVec 32 := 96#32
  let v195 : BitVec 32 := Scalar.addi v122 c96_i32_141
  let v196 : Index := Scalar.indexCast v195
  ![v196.toNat]

def k0_chk63 (v192 : IVec S16 32) : Prop :=
  (∀ a x, ((![v192] : Fin 1 → IVec S16 32) a x).toNat < S64.size a) ∧
  (∀ a x, ((![v192] : Fin 1 → IVec S16 32) a x).toNat < S64.size a)
theorem k0_idx125_inb : ∀ (v192 : IVec S16 32) (k0_hw63 : k0_chk63 v192), ∀ a x, ((![v192] : Fin 1 → IVec S16 32) a x).toNat < S64.size a := fun v192 k0_hw63 => k0_hw63.1
theorem k0_idx126_inb : ∀ (v192 : IVec S16 32) (k0_hw63 : k0_chk63 v192), ∀ a x, ((![v192] : Fin 1 → IVec S16 32) a x).toNat < S64.size a := fun v192 k0_hw63 => k0_hw63.2
def k0_off134 (k0_t14 : Fin k0_t14_loop.trips) : Fin 1 → Nat :=
  let c28672_i32_143 : BitVec 32 := 28672#32
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let v200 : BitVec 32 := Scalar.addi c28672_i32_143 v122
  let c112_i32 : BitVec 32 := 112#32
  let v201 : BitVec 32 := Scalar.addi v200 c112_i32
  let v202 : Index := Scalar.indexCast v201
  ![v202.toNat]
def k0_off135 (k0_t14 : Fin k0_t14_loop.trips) : Fin 1 → Nat :=
  let c0_i32_101 : BitVec 32 := 0#32
  let c1_i32_103 : BitVec 32 := 1#32
  let arg16 : BitVec 32 := Scf.iv c0_i32_101 c1_i32_103 k0_t14
  let c7_i32_117 : BitVec 32 := 7#32
  let v122 : BitVec 32 := Scalar.shli arg16 c7_i32_117
  let c112_i32_144 : BitVec 32 := 112#32
  let v206 : BitVec 32 := Scalar.addi v122 c112_i32_144
  let v207 : Index := Scalar.indexCast v206
  ![v207.toNat]

def k0_chk64 (v203 : IVec S16 32) : Prop :=
  (∀ a x, ((![v203] : Fin 1 → IVec S16 32) a x).toNat < S64.size a) ∧
  (∀ a x, ((![v203] : Fin 1 → IVec S16 32) a x).toNat < S64.size a)
theorem k0_idx127_inb : ∀ (v203 : IVec S16 32) (k0_hw64 : k0_chk64 v203), ∀ a x, ((![v203] : Fin 1 → IVec S16 32) a x).toNat < S64.size a := fun v203 k0_hw64 => k0_hw64.1
theorem k0_idx128_inb : ∀ (v203 : IVec S16 32) (k0_hw64 : k0_chk64 v203), ∀ a x, ((![v203] : Fin 1 → IVec S16 32) a x).toNat < S64.size a := fun v203 k0_hw64 => k0_hw64.2
@[reducible] def k0_t15_loop : Scf.Loop 32 :=
  let c0_i32_107 : BitVec 32 := 0#32
  let c32_i32_108 : BitVec 32 := 32#32
  let v111 : BitVec 32 := Scalar.addi c0_i32_107 c32_i32_108
  let c1_i32_109 : BitVec 32 := 1#32
  ⟨c0_i32_107, v111, c1_i32_109⟩
def k0_off136 (k0_t15 : Fin k0_t15_loop.trips) (c0_i32_118 : BitVec 32) : Fin 1 → Nat :=
  let c0_i32_107 : BitVec 32 := 0#32
  let c1_i32_109 : BitVec 32 := 1#32
  let arg16 : BitVec 32 := Scf.iv c0_i32_107 c1_i32_109 k0_t15
  let c7_i32_117 : BitVec 32 := 7#32
  let v118 : BitVec 32 := Scalar.shli arg16 c7_i32_117
  let v119 : BitVec 32 := Scalar.addi v118 c0_i32_118
  let v120 : Index := Scalar.indexCast v119
  ![v120.toNat]
@[reducible] def k0_t16_loop : Scf.Loop 32 :=
  let c0_i32_112 : BitVec 32 := 0#32
  let c32_i32_113 : BitVec 32 := 32#32
  let v114 : BitVec 32 := Scalar.addi c0_i32_112 c32_i32_113
  let c1_i32_114 : BitVec 32 := 1#32
  ⟨c0_i32_112, v114, c1_i32_114⟩
def k0_off137 (k0_t16 : Fin k0_t16_loop.trips) (c0_i32_118 : BitVec 32) : Fin 1 → Nat :=
  let c0_i32_112 : BitVec 32 := 0#32
  let c1_i32_114 : BitVec 32 := 1#32
  let arg16 : BitVec 32 := Scf.iv c0_i32_112 c1_i32_114 k0_t16
  let c7_i32_117 : BitVec 32 := 7#32
  let v118 : BitVec 32 := Scalar.shli arg16 c7_i32_117
  let v119 : BitVec 32 := Scalar.addi v118 c0_i32_118
  let v120 : Index := Scalar.indexCast v119
  ![v120.toNat]
def k0_off138 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_117_r1 : BitVec 32 := 0#32
  ![v1.toNat, 0]
def k0_off139 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_117_r2 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x64 : Shape := ⟨2, ![1048576, 64]⟩
abbrev S1048576 : Shape := ⟨1, ![1048576]⟩
abbrev S1048576x1 : Shape := ⟨2, ![1048576, 1]⟩
abbrev S_ : Shape := ⟨0, ![]⟩
abbrev S1048576x1x1 : Shape := ⟨3, ![1048576, 1, 1]⟩
abbrev S1 : Shape := ⟨1, ![1]⟩
abbrev S1x1x1 : Shape := ⟨3, ![1, 1, 1]⟩
abbrev S64 : Shape := ⟨1, ![64]⟩

abbrev nBuf : Space → Nat
  | .hbm => 62
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576x1, .i32⟩
  | .hbm, ⟨3, _⟩ => ⟨S_, .i32⟩
  | .hbm, ⟨4, _⟩ => ⟨S1048576x1, .i32⟩
  | .hbm, ⟨5, _⟩ => ⟨S1048576x1, .i1⟩
  | .hbm, ⟨6, _⟩ => ⟨S_, .i32⟩
  | .hbm, ⟨7, _⟩ => ⟨S1048576x1, .i32⟩
  | .hbm, ⟨8, _⟩ => ⟨S1048576x1, .i32⟩
  | .hbm, ⟨9, _⟩ => ⟨S1048576x1, .i32⟩
  | .hbm, ⟨10, _⟩ => ⟨S1048576x1x1, .i32⟩
  | .hbm, ⟨11, _⟩ => ⟨S1, .i32⟩
  | .hbm, ⟨12, _⟩ => ⟨S_, .i32⟩
  | .hbm, ⟨13, _⟩ => ⟨S1048576x1x1, .i32⟩
  | .hbm, ⟨14, _⟩ => ⟨S1048576x1x1, .i1⟩
  | .hbm, ⟨15, _⟩ => ⟨S1x1x1, .i32⟩
  | .hbm, ⟨16, _⟩ => ⟨S1048576x1x1, .i32⟩
  | .hbm, ⟨17, _⟩ => ⟨S1048576x1x1, .i1⟩
  | .hbm, ⟨18, _⟩ => ⟨S1048576x1x1, .i1⟩
  | .hbm, ⟨19, _⟩ => ⟨S_, .i1⟩
  | .hbm, ⟨20, _⟩ => ⟨S1048576x1, .i1⟩
  | .hbm, ⟨21, _⟩ => ⟨S1048576x1, .f32⟩
  | .hbm, ⟨22, _⟩ => ⟨S_, .f32⟩
  | .hbm, ⟨23, _⟩ => ⟨S1048576x1, .f32⟩
  | .hbm, ⟨24, _⟩ => ⟨S1048576x1, .f32⟩
  | .hbm, ⟨25, _⟩ => ⟨S1048576, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S1048576x1, .i32⟩
  | .hbm, ⟨44, _⟩ => ⟨S_, .i32⟩
  | .hbm, ⟨45, _⟩ => ⟨S1048576, .i32⟩
  | .hbm, ⟨46, _⟩ => ⟨S64, .i32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_v6 : Ref sig .tc := ⟨.hbm, 35, rfl⟩
abbrev main_c_2 : Ref sig .tc := ⟨.hbm, 36, rfl⟩
abbrev main_v7 : Ref sig .tc := ⟨.hbm, 37, rfl⟩
abbrev main_v8 : Ref sig .tc := ⟨.hbm, 38, rfl⟩
abbrev main_c_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_5 : Ref sig .tc := ⟨.hbm, 48, rfl⟩
abbrev main_v16 : Ref sig .tc := ⟨.hbm, 49, rfl⟩
abbrev main_v17 : Ref sig .tc := ⟨.hbm, 50, rfl⟩
abbrev main_cst_6 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_7 : Ref sig .tc := ⟨.hbm, 56, rfl⟩
abbrev main_v22 : Ref sig .tc := ⟨.hbm, 57, rfl⟩
abbrev main_v23 : Ref sig .tc := ⟨.hbm, 58, rfl⟩
abbrev main_cst_8 : Ref sig .tc := ⟨.hbm, 59, rfl⟩
abbrev main_v24 : Ref sig .tc := ⟨.hbm, 60, rfl⟩
abbrev main_v25 : Ref sig .tc := ⟨.hbm, 61, rfl⟩

abbrev nD : Nat := 1
abbrev τ : Topo := Topo.v7x

variable {F : FTy → Type} [FloatOps F]
-- ==== Proof.Model.lean ====
/-
  What one task computes, as plain functions of numbers. A row of memory is a function from positions, so that a
  block of sixteen lanes is read off at any offset. A tile's words are `a`, the flat table is `T`.
-/
module

public import proofs.«01_k».proof.Defs
public import proofs.«01_k».proof.Proof.Gen.KernelIdeal

@[expose] public section

noncomputable section

namespace Cert.Proof.Model

open Cert.KernelIdeal Idealize.ShloMosaic

variable {F : FTy → Type} [FloatOps F]

/-- Sixteen lanes of a row, from position `o`. -/
def blk {α : Type} (G : ℕ → α) (o : ℕ) : S16.Idx → α := fun x => G (o + (x 0).val)

/-- Where column `k` of the table starts: eight columns interleave within a tile, tiles stand `2^23` apart. -/
def lutW (k : ℕ) : BitVec 32 := BitVec.ofNat 32 (k / 8 * 8388608 + k % 8 * 128)

/-- The flat position of entry (row `n`, column `k`). -/
def place (n k : ℕ) : ℕ := k / 8 * 8388608 + k % 8 * 128 + (n / 128 * 1024 + n % 128)

/-- The word that the index list of task `w` holds for its position `p`. -/
def word (w : ℕ) (a : ℕ → BitVec 32) (p : ℕ) : BitVec 32 :=
  lutW (a p).toNat + BitVec.ofNat 32 ((256 * w + p / 128) * 1024 + p % 128)

/-- What the gather brings for position `p`. -/
def got (w : ℕ) (a : ℕ → BitVec 32) (T : ℕ → F .f32) (p : ℕ) : F .f32 := T (word w a p).toNat

/-- One sixteen-lane histogram step. -/
def histStep (H : ℕ → F .f32) (v : S16.Idx → BitVec 32) : ℕ → F .f32 :=
  (List.finRange 16).foldl (fun g k j =>
    if j = (v (Shape.ofLane k)).toNat then FloatOps.idxAddf (g j) (Scalar.ofBits .f32 0x3F800000#32) else g j) H

/-- The histogram after the first `u` blocks of sixteen words. -/
def histN (a : ℕ → BitVec 32) : ℕ → ℕ → F .f32
  | 0 => fun _ => Scalar.ofBits .f32 0x00000000#32
  | u + 1 => histStep (histN a u) (blk a (16 * u))

/-- Four of the eight blocks of a trip added onto an accumulator, from block `s`, every other one. -/
def accStep (g : ℕ → F .f32) (t s : ℕ) (x : FVec F S16 .f32) : FVec F S16 .f32 :=
  addf (addf (addf (addf x (blk g (128 * t + 16 * s))) (blk g (128 * t + 16 * (s + 2)))) (blk g (128 * t + 16 * (s + 4))))
    (blk g (128 * t + 16 * (s + 6)))

/-- The accumulator of the even (`s = 0`) or odd (`s = 1`) blocks after `t` trips. -/
def accN (g : ℕ → F .f32) (s : ℕ) : ℕ → FVec F S16 .f32
  | 0 => broadcast S16 (Scalar.ofBits .f32 0x00000000#32)
  | t + 1 => accStep g t s (accN g s t)

/-- The sixteen sums a task writes out. -/
def sums (w : ℕ) (a : ℕ → BitVec 32) (T : ℕ → F .f32) : FVec F S16 .f32 :=
  addf (accN (got w a T) 0 256) (accN (got w a T) 1 256)

/-- The sixty-four counts a task writes out. -/
def counts (a : ℕ → BitVec 32) : ℕ → F .f32 := histN a 2048

/-! ## Words -/

theorem word_toNat (w : ℕ) (a : ℕ → BitVec 32) (p : ℕ) (hw : w < 32) (hp : p < 32768) (ha : (a p).toNat < 64) :
    (word w a p).toNat = place (32768 * w + p) (a p).toNat := by
  unfold word place lutW
  rw [BitVec.toNat_add, BitVec.toNat_ofNat, BitVec.toNat_ofNat]
  generalize (a p).toNat = k at ha
  omega

theorem place_lt (n k : ℕ) (hn : n < 1048576) (hk : k < 64) : place n k < 67108864 := by
  unfold place; omega

/-- The step of the histogram is the indexed store with addition, all lanes set. -/
theorem storeIdx_eq (H : ℕ → F .f32) (f : Vec F S64 .f32) (hf : ∀ y, f y = H (y 0).val) (v : IVec S16 32)
    (h : ∀ a x, ((![v] : Fin 1 → IVec S16 32) a x).toNat < S64.size a) (y : S64.Idx) :
    storeIdx (F := F) (e := .f32) (s := S64) f ![v] (broadcast S16 (Scalar.ofBits .f32 0x3F800000#32)) (fun _ => 1#1) true h y = histStep H v (y 0).val := by
  obtain rfl : f = fun y => H (y 0).val := funext hf
  unfold storeIdx histStep
  generalize Scalar.ofBits (F := F) .f32 0x3F800000#32 = o
  refine congrFun (List.foldl_hom (fun (H : ℕ → F .f32) (y : S64.Idx) => H (y 0).val) (l := List.finRange 16) (init := H)
    (g₁ := fun g k j => if j = (v (Shape.ofLane k)).toNat then FloatOps.idxAddf (g j) o else g j) fun H k => ?_) y
  funext j
  have this : (∀ a : Fin 1, (j a).val = (idxAt (s := S64) (![v] : Fin 1 → IVec S16 32) h (Shape.ofLane k) a).val)
      ↔ (j 0).val = (v (Shape.ofLane k)).toNat :=
    ⟨fun e => e 0, fun e a => by obtain rfl := Fin.eq_zero a; exact e⟩
  by_cases hj : (j 0).val = (v (Shape.ofLane k)).toNat
  · rw [if_pos hj, hj]
    exact if_pos (this.mpr hj)
  · rw [if_neg hj]
    exact if_neg fun e => hj (this.mp e)

end Cert.Proof.Model
-- ==== Proof.Rows.lean ====
/-
  The launch set-up of the kernel as a program over any float values, and the steps of a task over a row of tile
  memory: a load of sixteen lanes, a load followed by a store of sixteen lanes, the indexed load and the indexed store.
  A row is held with what its first `n` elements are known to be.
-/
module

public import proofs.«01_k».proof.Proof.Model
public import proofs.«01_k».proof.Proof.Gen.KernelIdeal.Launch
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## Rows -/

/-- A row of `N` elements, held outright, whose first `n` elements are `G`'s. -/
def Row {N : ℕ} {e : EltTy} (c : Thread nD τ) (r : Memref sig c.2.kind .vmem ⟨1, ![N]⟩ e) (n : ℕ) (G : ℕ → Elt F e) : sProp 𝕄 :=
  iprop(∃ f, ⌜∀ y : (⟨1, ![N]⟩ : Shape).Idx, (y 0).val < n → r.view.read (Elt F) f y = G (y 0).val⌝ ∗ (r.view.loc c ↦[r.view.set]{fullShare} f))

section Rules

variable (d : Dev nD) (cc : Fin τ.nSC) (ss : Fin τ.nSub)
variable {N n : ℕ} {e : EltTy} {G : ℕ → Elt F e} {α : Type}

local notation "thr" => SparseCore.V d cc ss
/-- Sixteen known lanes are loaded. -/
theorem wp_lanes {Q : α → sProp 𝕄} (r : Memref sig (Kind.scVector) .vmem ⟨1, ![N]⟩ e) (off : Fin 1 → ℕ) (inb : ∀ a, off a + S16.size a ≤ (⟨1, ![N]⟩ : Shape).size a)
    (o : ℕ) (ho : off = ![o]) (hn : o + 16 ≤ n)
    {hl : r.view.LoadsAt (Rect.unit (s := ⟨1, ![N]⟩) off S16.size inb).toLoadRect} {k : (S16.Idx → Elt F e) → Prog (TpuEff nD τ sig (Elt F) Λ₀ thr.2) α} :
    (Row thr r n G : sProp 𝕄) ⊢ iprop((Row thr r n G -∗ wp frame (wpE (defs₀ (F := F)) 𝒱₀ thr none) Set.univ (k (blk G o)) Q)
      -∗ wp frame (wpE (defs₀ (F := F)) 𝒱₀ thr none) Set.univ (.op (.load r (Rect.unit (s := ⟨1, ![N]⟩) off S16.size inb).toLoadRect hl) k) Q) := by
  subst ho
  unfold Row
  iintro ⟨%f, %hf, H⟩ Hk
  have hv : r.view.readAt (Elt F) (Rect.unit (s := ⟨1, ![N]⟩) ![o] S16.size inb).toLoadRect f = blk G o := by
    rw [View.readAt_rect]
    funext x
    have hx : (x 0).val < 16 := (x 0).isLt
    refine (hf ((Rect.unit (s := ⟨1, ![N]⟩) ![o] S16.size inb).emb x) ?_).trans ?_
    · show o + 1 * (x 0).val < n
      omega
    · show G (o + 1 * (x 0).val) = G (o + (x 0).val)
      rw [Nat.one_mul]
  iapply (wp_load 𝒱₀ thr none Set.univ (m := r) (S := r.view.set) (View.setOn_subset_set _ _)) $$ H
  iintro H
  rw [hv]
  iapply Hk
  iexists f; isplitr
  · ipureintro; exact hf
  · iexact H

/-- Sixteen lanes past the known ones are loaded (for nothing) and stored: sixteen more are known. -/
theorem wp_fill {Q : α → sProp 𝕄} (r : Memref sig (Kind.scVector) .vmem ⟨1, ![N]⟩ e) (off : Fin 1 → ℕ) (inb : ∀ a, off a + S16.size a ≤ (⟨1, ![N]⟩ : Shape).size a)
    (o : ℕ) (ho : off = ![o]) {w : S16.Idx → Elt F e} (hw : ∀ x : S16.Idx, w x = G (o + (x 0).val))
    {hl : r.view.LoadsAt (Rect.unit (s := ⟨1, ![N]⟩) off S16.size inb).toLoadRect}
    {hx : (r.access (Rect.unit (s := ⟨1, ![N]⟩) off S16.size inb)).Stores Finset.univ}
    {hm : (Finset.univ : Finset (Rect.unit (s := ⟨1, ![N]⟩) off S16.size inb).shape.Idx) = Finset.univ ∨ ∀ a, (Rect.unit (s := ⟨1, ![N]⟩) off S16.size inb).stride a = 1}
    {k : PUnit → Prog (TpuEff nD τ sig (Elt F) Λ₀ thr.2) α} :
    (Row thr r o G : sProp 𝕄) ⊢ iprop((Row thr r (o + 16) G -∗ wp frame (wpE (defs₀ (F := F)) 𝒱₀ thr none) Set.univ (k ⟨⟩) Q)
      -∗ wp frame (wpE (defs₀ (F := F)) 𝒱₀ thr none) Set.univ (.op (.load r (Rect.unit (s := ⟨1, ![N]⟩) off S16.size inb).toLoadRect hl) fun _ =>
          .op (.store r (Rect.unit (s := ⟨1, ![N]⟩) off S16.size inb) w Finset.univ hx hm) k) Q) := by
  subst ho
  unfold Row
  iintro ⟨%f, %hf, H⟩ Hk
  iapply (wp_load 𝒱₀ thr none Set.univ (m := r) (S := r.view.set) (View.setOn_subset_set _ _)) $$ H
  iintro H
  iapply (wp_store 𝒱₀ thr none Set.univ (m := r) (r := Rect.unit (s := ⟨1, ![N]⟩) ![o] S16.size inb) (Mk := Finset.univ) (S := r.view.set)
    (View.set_slice_subset _ _)) $$ H
  iintro H
  iapply Hk
  iexists _; isplitr
  swap; · iexact H
  ipureintro
  intro y hy
  by_cases hyo : (y 0).val < o
  · refine (View.read_slice_write_of_not_mem (Rect.unit (s := ⟨1, ![N]⟩) ![o] S16.size inb) f w Finset.univ ?_).trans (hf y hyo)
    rw [Rect.map_emb_univ]
    exact Rect.not_mem_set_of_axis _ y 0 o 16 rfl rfl rfl (.inl hyo)
  · have hx16 : (y 0).val - o < 16 := by omega
    let x : S16.Idx := fun a => ⟨(y 0).val - o, by obtain rfl := Fin.eq_zero a; exact hx16⟩
    have hxy : (Rect.unit (s := ⟨1, ![N]⟩) ![o] S16.size inb).emb x = y := by
      refine Rect.emb_eq_of_coords (Rect.unit (s := ⟨1, ![N]⟩) ![o] S16.size inb) x y fun a => ?_
      obtain rfl := Fin.eq_zero a
      show (y 0).val = o + 1 * ((y 0).val - o)
      omega
    refine ((congrArg _ hxy.symm).trans (View.read_slice_write_emb (Rect.unit (s := ⟨1, ![N]⟩) ![o] S16.size inb) f w (Finset.mem_univ x))).trans ?_
    rw [hw]
    show G (o + ((y 0).val - o)) = _
    congr 1; omega

/-- The view of a memref's whole rectangle is the memref's. -/
theorem access_whole_set {s : Shape} (r : Memref sig (Kind.scVector) .vmem s e) : (r.access (.whole s)).set = r.view.set := by
  rw [View.set_slice, Rect.set_whole]; rfl

theorem access_whole_read {s : Shape} (r : Memref sig (Kind.scVector) .vmem s e) (f : Buf (Elt F) (r.view.loc thr)) (y : s.Idx) :
    (r.access (.whole s)).read (Elt F) f y = r.view.read (Elt F) f y := by
  show r.view.read (Elt F) f ((Rect.whole s).emb y) = _
  congr 1
  exact Rect.emb_eq_of_coords _ _ _ fun a => by show (y a).val = 0 + 1 * (y a).val; omega

/-- An indexed load from a known row of 64. -/
theorem wp_pick {Q : α → sProp 𝕄} (r : Memref sig (Kind.scVector) .vmem S64 e) {v : IVec S16 32} {h : ∀ a x, ((![v] : Fin 1 → IVec S16 32) a x).toNat < S64.size a}
    {hl : r.view.Loads} {k : (S16.Idx → Elt F e) → Prog (TpuEff nD τ sig (Elt F) Λ₀ thr.2) α} :
    (Row thr r 64 G : sProp 𝕄) ⊢ iprop((Row thr r 64 G -∗ wp frame (wpE (defs₀ (F := F)) 𝒱₀ thr none) Set.univ (k fun x => G (v x).toNat) Q)
      -∗ wp frame (wpE (defs₀ (F := F)) 𝒱₀ thr none) Set.univ (SparseCore.vectorLoadIdx r ![v] h hl >>= k) Q) := by
  unfold Row
  iintro ⟨%f, %hf, H⟩ Hk
  have hv : loadIdx ((r.access (.whole S64)).read (Elt F) f) ![v] h = fun x => G (v x).toNat := by
    funext x
    refine (access_whole_read d cc ss r f _).trans (hf _ ?_)
    exact h 0 x
  iapply (SparseCore.wp_vectorLoadIdx 𝒱₀ thr none Set.univ (base := r) (S := r.view.set) (q := fullShare) (access_whole_set r).subset) $$ H
  iintro H
  rw [hv]
  iapply Hk
  iexists f; isplitr
  · ipureintro; exact hf
  · iexact H

/-- One step of the histogram. -/
theorem wp_tally {Q : α → sProp 𝕄} (r : Memref sig (Kind.scVector) .vmem S64 .f32) {H : ℕ → F .f32} {v : IVec S16 32}
    {h : ∀ a x, ((![v] : Fin 1 → IVec S16 32) a x).toNat < S64.size a}
    {hs : (r.access (.whole S64)).Stores Finset.univ} {k : PUnit → Prog (TpuEff nD τ sig (Elt F) Λ₀ thr.2) α} :
    (Row thr r 64 H : sProp 𝕄) ⊢ iprop((Row thr r 64 (histStep H v) -∗ wp frame (wpE (defs₀ (F := F)) 𝒱₀ thr none) Set.univ (k ⟨⟩) Q)
      -∗ wp frame (wpE (defs₀ (F := F)) 𝒱₀ thr none) Set.univ (SparseCore.vectorStoreIdx r ![v] (k0_pay105 (F := F)) (fun _ => 1#1) true h hs >>= k) Q) := by
  unfold Row
  iintro ⟨%f, %hf, H⟩ Hk
  ihave H' := (Entails.of_eq (show (r.view.loc thr ↦[r.view.set]{fullShare} f : sProp 𝕄)
    = ((r.access (.whole S64)).loc thr ↦[(r.access (.whole S64)).set]{fullShare} f) by rw [access_whole_set])) $$ H
  iapply (SparseCore.wp_vectorStoreIdx 𝒱₀ thr none Set.univ (base := r)) $$ H'
  iintro H
  iapply Hk
  iexists _; isplitr
  swap
  · iapply (Entails.of_eq (show ((r.access (.whole S64)).loc thr ↦[(r.access (.whole S64)).set]{fullShare} _ : sProp 𝕄)
      = (r.view.loc thr ↦[r.view.set]{fullShare} _) by rw [access_whole_set]))
    iexact H
  ipureintro
  intro y hy
  refine (access_whole_read d cc ss r _ y).symm.trans ?_
  rw [View.read_write_univ]
  exact storeIdx_eq H _ (fun y => (access_whole_read d cc ss r f y).trans (hf y (y 0).isLt)) v h y

end Rules

end Cert.Proof.Task
-- ==== Proof.Loops.lean ====
/-
  The two kinds of loop of a task, each once: the trips that build a block of the index list while they count, and the
  trips that add up a gathered block. Every printed loop is one of these two at its chunk number and its buffers.
-/
module

public import proofs.«01_k».proof.Proof.Rows

@[expose] public section

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Offsets and words of a trip -/

/-- Where block `j` of trip `t` of chunk `q` starts in the task's words. -/
def offA (q t j : ℕ) : Fin 1 → ℕ :=
  ![(Scalar.indexCast (Scalar.addi (Scalar.addi (BitVec.ofNat 32 (4096 * q)) (Scalar.shli (Scf.iv 0#32 1#32 t) 7#32)) (BitVec.ofNat 32 (16 * j)))).toNat]
/-- Where it starts in its chunk. -/
def offX (t j : ℕ) : Fin 1 → ℕ :=
  ![(Scalar.indexCast (Scalar.addi (Scalar.shli (Scf.iv 0#32 1#32 t) 7#32) (BitVec.ofNat 32 (16 * j)))).toNat]

theorem offA_eq (q : Fin 8) (t : Fin 32) (j : Fin 8) : offA q t j = ![4096 * q.val + 128 * t.val + 16 * j.val] := by
  revert q t j; decide +kernel
theorem offX_eq (t : Fin 32) (j : Fin 8) : offX t j = ![128 * t.val + 16 * j.val] := by
  revert t j; decide +kernel
theorem offA_inb (q : Fin 8) (t : Fin 32) (j : Fin 8) : ∀ a, offA q t j a + S16.size a ≤ S32768.size a := by
  intro a; rw [offA_eq]; obtain rfl := Fin.eq_zero a
  show 4096 * q.val + 128 * t.val + 16 * j.val + 16 ≤ 32768
  omega
theorem offX_inb (t : Fin 32) (j : Fin 8) : ∀ a, offX t j a + S16.size a ≤ S4096.size a := by
  intro a; rw [offX_eq]; obtain rfl := Fin.eq_zero a
  show 128 * t.val + 16 * j.val + 16 ≤ 4096
  omega

/-- The lane numbers. -/
abbrev lanes : IVec S16 32 := iota .scVector S16 32 [0] iota_S16_d0_w32_scVector

/-- What is added to the column words of block `j` of trip `t`, `vv` the chunk's first row of 128. -/
def rowWords (v3 : IVec S16 32) (vv : BitVec 32) (t : ℕ) : ℕ → IVec S16 32
  | 0 => addi (broadcast S16 (Scalar.shli (Scalar.addi vv (Scf.iv 0#32 1#32 t)) 10#32)) v3
  | j + 1 => addi (rowWords v3 vv t j) (broadcast S16 16#32)

theorem rowWords_apply (R : ℕ) (hR : R < 8192) (t : Fin 32) (x : S16.Idx) :
    ∀ j : ℕ, rowWords lanes (BitVec.ofNat 32 R) t j x = BitVec.ofNat 32 ((R + t.val) * 1024 + (16 * j + (x 0).val))
  | 0 => by
    have hiv : Scf.iv 0#32 1#32 t.val = BitVec.ofNat 32 t.val := by revert t; decide +kernel
    have hx : lanes x = BitVec.ofNat 32 (x 0).val := by
      show BitVec.ofNat 32 (0 * 16 + (x 0).val) = _
      rw [Nat.zero_mul, Nat.zero_add]
    show (BitVec.ofNat 32 R + Scf.iv 0#32 1#32 t.val) <<< (10#32 : BitVec 32).toNat + lanes x = _
    rw [hiv, hx]
    have hx0 : (x 0).val < 16 := (x 0).isLt
    have ht := t.isLt
    apply BitVec.eq_of_toNat_eq
    simp only [BitVec.toNat_add, BitVec.toNat_shiftLeft, BitVec.toNat_ofNat, Nat.shiftLeft_eq]
    rw [show 2 ^ (10 % 2 ^ 32) = 1024 from rfl]
    have hx1 : (x 0).val < 16 := hx0
    generalize (x 0).val = b at hx1 ⊢
    omega
  | j + 1 => by
    show rowWords lanes (BitVec.ofNat 32 R) t j x + 16#32 = _
    rw [rowWords_apply R hR t x j, show (16#32 : BitVec 32) = BitVec.ofNat 32 16 from rfl, ← BitVec.ofNat_add]
    congr 1; ring

section Progs

/-- A task's program on the tile `i`. -/
@[reducible] def TP (F : FTy → Type) (i : grid0.Coords) : Type → Type 1 :=
  Prog (TpuEff nD τ sig (Elt F) Λ₀ (.scVector ((i 0).castLE hcore0) ((i 1).castLE hsub0)))

variable {i : grid0.Coords}

variable (aM : Memref sig .scVector .vmem S32768 .i32) (lM : Memref sig .scVector .vmem S64 .i32) (xM : Memref sig .scVector .vmem S4096 .i32)
  (hM : Memref sig .scVector .vmem S64 .f32) (gM : Memref sig .scVector .vmem S4096 .f32)

/-- The blocks `js` of a building trip: of each, sixteen words, their columns' places, the index words stored, the
words counted. -/
def unitsP (q : Fin 8) (t : Fin 32) (base : ℕ → IVec S16 32) : List (Fin 8) → TP F i Unit
  | [] => Prog.ret ()
  | j :: js =>
    Prog.op (.load aM (Rect.unit (s := S32768) (offA q t j) S16.size (offA_inb q t j)).toLoadRect (View.loadsAt_vmem h_S16)) fun (v : Vec F S16 .i32) =>
    Prog.op (.assume (k0_chk1 v) (k0_chk1.dec v)) fun hw =>
    SparseCore.vectorLoadIdx lM ![v] (k0_idx1_inb v hw.down) (View.loads_vmem h_S64) >>= fun (lv : Vec F S16 .i32) =>
    Prog.op (.load xM (Rect.unit (s := S4096) (offX t j) S16.size (offX_inb t j)).toLoadRect (View.loadsAt_vmem h_S16)) fun _ =>
    Prog.op (.store xM (Rect.unit (s := S4096) (offX t j) S16.size (offX_inb t j)) (addi lv (base j)) Finset.univ (View.stores_vmem_bits_univ h_S16 rfl) (.inl rfl)) fun _ =>
    SparseCore.vectorStoreIdx hM ![v] (k0_pay105 (F := F)) (fun _ => 1#1) true (k0_idx2_inb v hw.down) (View.stores_vmem_bits_univ h_S64 rfl) >>= fun _ =>
    unitsP q t base js

def tripP (q : Fin 8) (v3 : IVec S16 32) (vv : BitVec 32) (t : Fin 32) (_ : Unit) : TP F i Unit :=
  unitsP aM lM xM hM q t (rowWords v3 vv t) [0, 1, 2, 3, 4, 5, 6, 7]

/-- An adding trip: eight blocks loaded, the even ones added to the first sum, the odd ones to the second. -/
def addP (t : Fin 32) (a : FVec F S16 .f32 × FVec F S16 .f32) : TP F i (FVec F S16 .f32 × FVec F S16 .f32) :=
  let ld (j : Fin 8) (k : Vec F S16 .f32 → TP F i (FVec F S16 .f32 × FVec F S16 .f32)) : TP F i (FVec F S16 .f32 × FVec F S16 .f32) :=
    Prog.op (.load gM (Rect.unit (s := S4096) (offX t j) S16.size (offX_inb t j)).toLoadRect (View.loadsAt_vmem h_S16)) k
  ld 0 fun x0 => ld 1 fun x1 => ld 2 fun x2 => ld 3 fun x3 => ld 4 fun x4 => ld 5 fun x5 => ld 6 fun x6 => ld 7 fun x7 =>
  Prog.ret (addf (addf (addf (addf a.1 x0) x2) x4) x6, addf (addf (addf (addf a.2 x1) x3) x5) x7)

end Progs

/-! ## The building loop -/

/-- The thread of tile `i`. -/
abbrev tt (d : Dev nD) (i : grid0.Coords) : Thread nD τ := SparseCore.V d ((i 0).castLE hcore0) ((i 1).castLE hsub0)

section Build

variable (d : Dev nD) {i : grid0.Coords} {α : Type}

variable (aM : Memref sig .scVector .vmem S32768 .i32) (lM : Memref sig .scVector .vmem S64 .i32) (xM : Memref sig .scVector .vmem S4096 .i32)
  (hM : Memref sig .scVector .vmem S64 .f32) (gM : Memref sig .scVector .vmem S4096 .f32)

/-- What a building loop holds after `m` blocks of chunk `q`. -/
def Built (a : ℕ → BitVec 32) (w q m : ℕ) : sProp 𝕄 :=
  iprop(Row (F := F) (tt d i) aM 32768 a ∗ Row (F := F) (tt d i) lM 64 lutW ∗ Row (F := F) (tt d i) xM (16 * m) (fun p => word w a (4096 * q + p))
    ∗ Row (tt d i) hM 64 (histN a (256 * q + m)))

/-- One block: its words are found, their index words stored, the words counted. -/
theorem wp_unit {a : ℕ → BitVec 32} (ha : ∀ p, p < 32768 → (a p).toNat < 64) (w : ℕ) (hw : w < 32) (q : Fin 8) (t : Fin 32) (j : Fin 8) (m : ℕ)
    (hm : m = 8 * t.val + j.val) (js : List (Fin 8)) {Q : Unit → sProp 𝕄} :
    Built d (i := i) aM lM xM hM a w q m ⊢ iprop((Built d (i := i) aM lM xM hM a w q (m + 1)
        -∗ wp frame (wpE (defs₀ (F := F)) 𝒱₀ (tt d i) none) Set.univ (unitsP (i := i) aM lM xM hM q t (rowWords lanes (BitVec.ofNat 32 (256 * w + 32 * q)) t) js) Q)
      -∗ wp frame (wpE (defs₀ (F := F)) 𝒱₀ (tt d i) none) Set.univ (unitsP (i := i) aM lM xM hM q t (rowWords lanes (BitVec.ofNat 32 (256 * w + 32 * q)) t) (j :: js)) Q) := by
  have hq := q.isLt
  have ht := t.isLt
  have hj := j.isLt
  have hv : ∀ x : S16.Idx, (blk a (16 * (256 * q.val + m)) x).toNat < 64 := fun x => by
    have hx : (x 0).val < 16 := (x 0).isLt
    exact ha _ (by omega)
  have hin : ∀ b x, ((![blk a (16 * (256 * q.val + m))] : Fin 1 → IVec S16 32) b x).toNat < S64.size b := fun b x => by
    obtain rfl := Fin.eq_zero b; exact hv x
  have hchk : k0_chk1 (blk a (16 * (256 * q.val + m))) := ⟨hin, hin⟩
  rw [unitsP]
  unfold Built
  iintro ⟨Ha, Hl, Hx, Hh⟩ Hk
  iapply (wp_lanes (F := F) (G := a) d _ _ aM _ (offA_inb q t j) (16 * (256 * q.val + m)) (by rw [offA_eq]; congr 1; omega) (n := 32768) (by omega)) $$ Ha
  iintro Ha
  iapply (wp_assume 𝒱₀ (tt d i) none Set.univ hchk)
  iapply (wp_pick (F := F) d _ _ lM) $$ Hl
  iintro Hl
  iapply (wp_fill (F := F) d _ _ xM _ (offX_inb t j) (16 * m) (by rw [offX_eq]; congr 1; omega)
    (G := fun p => word w a (4096 * q.val + p)) (fun x => ?_)) $$ Hx
  · have hx : (x 0).val < 16 := (x 0).isLt
    show lutW (blk a (16 * (256 * q.val + m)) x).toNat + rowWords lanes (BitVec.ofNat 32 (256 * w + 32 * q)) t j.val x = _
    rw [rowWords_apply _ (by omega)]
    unfold word blk
    rw [show 4096 * q.val + (16 * m + (x 0).val) = 16 * (256 * q.val + m) + (x 0).val by ring]
    congr 2
    omega
  iintro Hx
  iapply (wp_tally (F := F) d _ _ hM) $$ Hh
  iintro Hh
  iapply Hk
  isplitl [Ha]; · iexact Ha
  isplitl [Hl]; · iexact Hl
  isplitl [Hx]; · iexact Hx
  iexact Hh

/-- Consecutive blocks. -/
theorem wp_units {a : ℕ → BitVec 32} (ha : ∀ p, p < 32768 → (a p).toNat < 64) (w : ℕ) (hw : w < 32) (q : Fin 8) (t : Fin 32) (Q : Unit → sProp 𝕄) :
    ∀ (js : List (Fin 8)) (m : ℕ), (∀ (k : ℕ) (h : k < js.length), m + k = 8 * t.val + (js[k]).val) →
      (Built d (i := i) aM lM xM hM a w q m : sProp 𝕄) ⊢ iprop((Built d (i := i) aM lM xM hM a w q (m + js.length) -∗ Q ())
        -∗ wp frame (wpE (defs₀ (F := F)) 𝒱₀ (tt d i) none) Set.univ (unitsP (i := i) aM lM xM hM q t (rowWords lanes (BitVec.ofNat 32 (256 * w + 32 * q)) t) js) Q)
  | [], m, _ => by
    iintro H Hk
    rw [unitsP, wp_ret]
    imodintro
    iapply Hk
    iexact H
  | j :: js, m, hjs => by
    iintro H Hk
    iapply (wp_unit d aM lM xM hM ha w hw q t j m (hjs 0 (by simp)) js) $$ H
    iintro H
    iapply (wp_units ha w hw q t Q js (m + 1) fun k h => (by have := hjs (k + 1) (by simpa using h); simpa [Nat.add_assoc, Nat.add_comm 1 k] using this)) $$ H
    iintro H
    iapply Hk
    iapply (Entails.of_eq (show (Built d (i := i) aM lM xM hM a w q (m + 1 + js.length) : sProp 𝕄) = Built d (i := i) aM lM xM hM a w q (m + (j :: js).length) by
      rw [List.length_cons, Nat.add_assoc, Nat.add_comm 1]))
    iexact H

/-- A building loop: the index list of chunk `q`, and the counts past it. -/
theorem wp_build {a : ℕ → BitVec 32} (ha : ∀ p, p < 32768 → (a p).toNat < 64) (w : ℕ) (hw : w < 32) (q : Fin 8)
    (l : Scf.Loop 32) (hl : l.trips = 32) {ok : Scf.OK l.lb l.ub l.st} {body : Fin l.trips → Unit → TP F i Unit} {vv : BitVec 32} (hvv : vv = BitVec.ofNat 32 (256 * w + 32 * q.val))
    (hb : ∀ t u, body t u = tripP aM lM xM hM q lanes vv (Fin.cast hl t) u) {k : Unit → TP F i α} {Q : α → sProp 𝕄} :
    (Built d (i := i) aM lM xM hM a w q 0 : sProp 𝕄) ⊢ iprop((Built d (i := i) aM lM xM hM a w q 256
        -∗ wp frame (wpE (defs₀ (F := F)) 𝒱₀ (tt d i) none) Set.univ (k ()) Q)
      -∗ wp frame (wpE (defs₀ (F := F)) 𝒱₀ (tt d i) none) Set.univ (Scf.for l.lb l.ub l.st ok () body >>= k) Q) := by
  subst hvv
  iintro H Hk
  iapply (Scf.wp_for_bind frame (wpE (defs₀ (F := F)) 𝒱₀ (tt d i) none) Set.univ l.lb l.ub l.st ok () body (fun n _ => Built d (i := i) aM lM xM hM a w q (8 * n))
    (fun t u => ?_)) $$ H
  · rw [hb]
    unfold tripP
    iintro H
    iapply (wp_units d aM lM xM hM ha w hw q (Fin.cast hl t) _ [0, 1, 2, 3, 4, 5, 6, 7] (8 * t.val) (fun k h => by
      show 8 * t.val + k = 8 * t.val + _
      congr 1
      revert k; decide)) $$ H
    iintro H
    iexact H
  iintro %u H
  rw [show Scf.trips l.lb l.ub l.st = 32 from hl]
  iapply Hk
  iexact H

/-! ## The adding loop -/

/-- A gathered chunk `q` of the row `g`, added up. -/
theorem wp_add (g : ℕ → F .f32) (q : Fin 8) (l : Scf.Loop 32) (hl : l.trips = 32) {ok : Scf.OK l.lb l.ub l.st}
    {body : Fin l.trips → FVec F S16 .f32 × FVec F S16 .f32 → TP F i (FVec F S16 .f32 × FVec F S16 .f32)}
    (hb : ∀ t u, body t u = addP gM (Fin.cast hl t) u) {k : FVec F S16 .f32 × FVec F S16 .f32 → TP F i α} {Q : α → sProp 𝕄} :
    (Row (tt d i) gM 4096 (fun p => g (4096 * q.val + p)) : sProp 𝕄) ⊢ iprop((Row (tt d i) gM 4096 (fun p => g (4096 * q.val + p))
        -∗ wp frame (wpE (defs₀ (F := F)) 𝒱₀ (tt d i) none) Set.univ (k (accN g 0 (32 * (q.val + 1)), accN g 1 (32 * (q.val + 1)))) Q)
      -∗ wp frame (wpE (defs₀ (F := F)) 𝒱₀ (tt d i) none) Set.univ (Scf.for l.lb l.ub l.st ok (accN g 0 (32 * q.val), accN g 1 (32 * q.val)) body >>= k) Q) := by
  have hq := q.isLt
  iintro H Hk
  iapply (Scf.wp_for_bind frame (wpE (defs₀ (F := F)) 𝒱₀ (tt d i) none) Set.univ l.lb l.ub l.st ok _ body
    (fun n acc => iprop(⌜acc = (accN g 0 (32 * q.val + n), accN g 1 (32 * q.val + n))⌝ ∗ Row (tt d i) gM 4096 (fun p => g (4096 * q.val + p))))
    (fun t u => ?_)) $$ [H]
  · rw [hb]
    have ht : t.val < 32 := lt_of_lt_of_eq t.isLt hl
    have hbl : ∀ j : Fin 8, blk (fun p => g (4096 * q.val + p)) (128 * t.val + 16 * j.val) = blk g (128 * (32 * q.val + t.val) + 16 * j.val) := fun j => by
      funext x; unfold blk; congr 1; ring_nf
    have hst : ∀ s, accN g s (32 * q.val + (t.val + 1)) = accStep g (32 * q.val + t.val) s (accN g s (32 * q.val + t.val)) := fun s => rfl
    iintro ⟨%hu, H⟩
    subst hu
    unfold addP
    have step : ∀ (j : Fin 8) (k : Vec F S16 .f32 → TP F i (FVec F S16 .f32 × FVec F S16 .f32)) (Q : FVec F S16 .f32 × FVec F S16 .f32 → sProp 𝕄),
        (Row (tt d i) gM 4096 (fun p => g (4096 * q.val + p)) : sProp 𝕄) ⊢ iprop((Row (tt d i) gM 4096 (fun p => g (4096 * q.val + p))
          -∗ wp frame (wpE (defs₀ (F := F)) 𝒱₀ (tt d i) none) Set.univ (k (blk g (128 * (32 * q.val + t.val) + 16 * j.val))) Q)
        -∗ wp frame (wpE (defs₀ (F := F)) 𝒱₀ (tt d i) none) Set.univ
          (.op (.load gM (Rect.unit (s := S4096) (offX (Fin.cast hl t) j) S16.size (offX_inb (Fin.cast hl t) j)).toLoadRect (View.loadsAt_vmem h_S16)) k) Q) := fun j k Q => by
      rw [← hbl j]
      exact wp_lanes (F := F) d _ _ gM _ (offX_inb (Fin.cast hl t) j) _ (offX_eq (Fin.cast hl t) j) (by have := j.isLt; omega)
    iapply (step 0) $$ H; iintro H
    iapply (step 1) $$ H; iintro H
    iapply (step 2) $$ H; iintro H
    iapply (step 3) $$ H; iintro H
    iapply (step 4) $$ H; iintro H
    iapply (step 5) $$ H; iintro H
    iapply (step 6) $$ H; iintro H
    iapply (step 7) $$ H; iintro H
    rw [wp_ret]
    imodintro
    isplitr
    · ipureintro; rfl
    · iexact H
  · isplitr
    · ipureintro; rfl
    · iexact H
  iintro %u ⟨%hu, H⟩
  subst hu
  rw [show Scf.trips l.lb l.ub l.st = 32 from hl]
  iapply Hk
  iexact H

end Build

end Cert.Proof.Task
-- ==== Proof.Gather.lean ====
/-
  A task's copies, each once: a plain copy with its wait, the issue of an indirect gather, and its wait. What a gather in
  flight will hand back is the row of fetched values, the share of the table and the index list.
-/
module

public import proofs.«01_k».proof.Proof.Loops

@[expose] public section

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What a task owes, its waits all the launch's or local ones. -/
def Owing (c : Thread nD τ) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes c O W')

section

variable (d : Dev nD) {i : grid0.Coords} {α : Type}

/-- A local wait on a DMA semaphore in flight. -/
theorem wp_landed {O : CellTallies nD τ sig (HIx 1)} {W : Waits sig (HIx 1)} (hO : ∀ g, O g none = 0)
    {s s' : Shape} {e e' : EltTy} {sp sp' : Space} {κ' : Kind} (sem : DmaSem sig)
    {srcw : Memref sig .scVector sp' s' e'} {dstw : Memref sig κ' sp s e} {hsrc : srcw.view.WordExact} {hdst : dstw.view.WordExact}
    {D : sProp 𝕄} {k : PUnit → TP F i α} {Q : α → sProp 𝕄} :
    iprop(Transfers.Flight countersEmb (tt d i) (.dma sem) (default : HIx 1) dstw.view.dmaCredit D ∗ Owing (F := F) (tt d i) O W)
      ⊢ iprop((D -∗ semVal (tt d i, SemLoc.dma sem) 0 -∗ Owing (F := F) (tt d i) O W -∗ wp frame (wpE (defs₀ (F := F)) 𝒱₀ (tt d i) none) Set.univ (k ⟨⟩) Q)
        -∗ wp frame (wpE (defs₀ (F := F)) 𝒱₀ (tt d i) none) Set.univ (.op (.waitDma2 sem srcw dstw hsrc hdst) k) Q) := by
  unfold Owing
  iintro ⟨Hfl, #Hlv, %W', %hW', HO⟩ Hk
  ihave Hmw := (show levAts (K (F := F)).L (K (F := F)).lev ⊢ Transfers.MayWaits (tt d i) (default : HIx 1) O from
    (K (F := F)).mayWaits_none (thr := tt d i) hO) $$ Hlv
  iapply (Transfers.wp_waitLocalO countersEmb 𝒱₀ (tt d i) none (default : HIx 1) (rfl : dstw.view.dmaCredit = _)) $$ [Hfl HO]
  · isplitl [Hfl]; · iexact Hfl
    isplitl [HO]; · iexact HO
    iapply (Transfers.MayWaits.elim (SemLoc.dma sem)) $$ Hmw
  iintro ⟨HD, Hs, HO⟩
  iapply Hk $$ HD Hs
  isplitr; · iexact Hlv
  iexists _; isplitr
  swap; · iexact HO
  ipureintro
  intro p hp
  rcases Finset.mem_insert.mp hp with hp | hp
  · exact .inr (hp ▸ rfl)
  · exact hW' p hp

/-- A copy between two of the task's arrays and its wait. -/
theorem wp_copied {O : CellTallies nD τ sig (HIx 1)} {W : Waits sig (HIx 1)} (hO : ∀ g, O g none = 0)
    {s : Shape} {e : EltTy} {sp sp' : Space} (sem : DmaSem sig) (hs : 0 < s.numel)
    {src : Memref sig (tt d i).2.kind sp s e} {dst : Memref sig (tt d i).2.kind sp' s e} {hsrc : src.view.WordExact} {hdst : dst.view.WordExact}
    {hsem : DmaTarget.Typed (nD := nD) sp (.dma sem) (.here (p := (tt d i).2) dst)} {hsrc' : src.view.WordExact} {hdst' : dst.view.WordExact}
    {q : PosShare TreeShare} {fs : Buf (Elt F) (src.view.loc (tt d i))} {fd : Buf (Elt F) (dst.view.loc (tt d i))}
    {k : PUnit → TP F i α} {Q : α → sProp 𝕄} :
    iprop((src.view.loc (tt d i) ↦[src.view.set]{q} fs) ∗ (dst.view.loc (tt d i) ↦[dst.view.set]{fullShare} fd) ∗ semVal (tt d i, SemLoc.dma sem) 0
        ∗ Owing (F := F) (tt d i) O W)
      ⊢ iprop(((src.view.loc (tt d i) ↦[src.view.set]{q} fs)
          -∗ (dst.view.loc (tt d i) ↦[dst.view.set]{fullShare} dst.view.write (Elt F) fd (src.view.read (Elt F) fs) Finset.univ)
          -∗ semVal (tt d i, SemLoc.dma sem) 0 -∗ Owing (F := F) (tt d i) O W -∗ wp frame (wpE (defs₀ (F := F)) 𝒱₀ (tt d i) none) Set.univ (k ⟨⟩) Q)
        -∗ wp frame (wpE (defs₀ (F := F)) 𝒱₀ (tt d i) none) Set.univ
          (.op (.enqueueDma src (.here dst) (.dma sem) hsrc hdst hsem) fun _ => .op (.waitDma2 sem src dst hsrc' hdst') k) Q) := by
  iintro ⟨Hs, Hd, Hv, HO⟩ Hk
  iapply (Transfers.wp_dmaLocal countersEmb 𝒱₀ (tt d i) none (default : HIx 1) dst.view.dmaCredit rfl (View.amount_pos dst.view (.dma sem) hs) subset_rfl) $$ [Hs Hd Hv]
  · isplitl [Hs]; · iexact Hs
    isplitl [Hd]; · iexact Hd
    iexact Hv
  iintro Hfl
  iapply (wp_landed d hO sem) $$ [Hfl HO]
  · isplitl [Hfl]; · iexact Hfl
    iexact HO
  iintro ⟨Hd, Hs⟩ Hv HO
  iapply Hk $$ Hs Hd Hv HO

/-! ## The gather -/

/-- The flat table as a gather names it. -/
abbrev flat (arg2 : Memref sig .scVector .hbm S67108864 .f32) : Memref sig .scVector .hbm S67108864 .f32 :=
  arg2.slice (Rect.unit (s := S67108864) ![0] S67108864.size inb_S67108864_S67108864_0) (fun _ => rfl)

variable (i) in
/-- A share of the flat table. -/
def Tbl (arg2 : Memref sig .scVector .hbm S67108864 .f32) (q : PosShare TreeShare) (T : ℕ → F .f32) : sProp 𝕄 :=
  iprop(∃ f, ⌜∀ y : S67108864.Idx, (flat arg2).view.read (Elt F) f y = T (y 0).val⌝ ∗ ((flat arg2).view.loc (tt d i) ↦[(flat arg2).view.set]{q} f))

variable (arg2 : Memref sig .scVector .hbm S67108864 .f32) (xM : Memref sig .scVector .vmem S4096 .i32) (gM : Memref sig .scVector .vmem S4096 .f32)

variable (i) in
/-- A gather in flight. -/
def Flying (sem : DmaSem sig) (q : PosShare TreeShare) (T : ℕ → F .f32) (X : ℕ → BitVec 32) : sProp 𝕄 :=
  Transfers.Flight countersEmb (tt d i) (.dma sem) (default : HIx 1) gM.view.dmaCredit
    iprop(Row (tt d i) gM 4096 (fun p => T (X p).toNat) ∗ Tbl d i arg2 q T ∗ Row (F := F) (tt d i) xM 4096 X)

theorem wp_issue (sem : DmaSem sig) (hcr : ∀ s' : Shape, sig.dmaCredit .scVector (Kind.table .scVector .vmem) gM.view.buf s' .f32 = s'.numel * EltTy.f32.bits)
    {q : PosShare TreeShare} {T : ℕ → F .f32} {X : ℕ → BitVec 32} (hX : ∀ p, p < 4096 → (X p).toNat < 67108864) {n : ℕ} {G : ℕ → F .f32}
    {hsrc : (flat arg2).view.WordExact} {k : PUnit → TP F i α} {Q : α → sProp 𝕄} :
    iprop(Tbl d i arg2 q T ∗ Row (tt d i) gM n G ∗ Row (F := F) (tt d i) xM 4096 X ∗ semVal (tt d i, SemLoc.dma sem) 0)
      ⊢ iprop((Flying d i arg2 xM gM sem q T X -∗ wp frame (wpE (defs₀ (F := F)) 𝒱₀ (tt d i) none) Set.univ (k ⟨⟩) Q)
        -∗ wp frame (wpE (defs₀ (F := F)) 𝒱₀ (tt d i) none) Set.univ
          (SparseCore.enqueueIndirectGather rfl (flat arg2) gM gathers_S67108864_S4096 xM rfl sem hsrc rfl (Or.inl rfl) >>= k) Q) := by
  unfold Tbl Row Flying
  iintro ⟨⟨%fT, %hT, HT⟩, ⟨%fg, -, Hg⟩, ⟨%fx, %hx, Hx⟩, Hv⟩ Hk
  have hlt : ∀ y : S4096.Idx, (y 0).val < 4096 := fun y => (y 0).isLt
  have hin : ∀ y, (xM.view.read (Elt F) fx y).toNat < S67108864.size gathers_S67108864_S4096.axis := fun y => by
    rw [hx y (hlt y)]; exact hX _ (hlt y)
  iapply (SparseCore.wp_indirectGatherLocal countersEmb 𝒱₀ (tt d i) none (hg := gathers_S67108864_S4096) (default : HIx 1) gM.view.dmaCredit
    (SparseCore.sum_rowCredit_eq_dmaCredit gM _ hcr) (by decide) hin) $$ [HT Hg Hx Hv]
  · isplitl [HT]; · iexact HT
    isplitl [Hg]; · iexact Hg
    isplitl [Hx]; · iexact Hx
    iexact Hv
  iintro Hfl
  iapply Hk
  iapply (Transfers.Flight_mono countersEmb (tt d i) ?_) $$ Hfl
  unfold Tbl Row
  iintro ⟨Hg, HT, Hx⟩
  isplitl [Hg]
  · iexists _; isplitr
    swap; · iexact Hg
    ipureintro
    intro y hy
    rw [View.read_write_univ]
    refine (hT _).trans ?_
    congr 1
    rw [show gathers_S67108864_S4096.idx _ y 0 = _ from Shape.Gathers.idx_axis gathers_S67108864_S4096 _ y]
    show (xM.view.read (Elt F) fx (S4096.rowMajor.symm _)).toNat = _
    rw [hx _ (hlt _), ← Shape.rowMajor_val_one, Equiv.apply_symm_apply]
    rfl
  isplitl [HT]
  · iexists fT; isplitr
    · ipureintro; exact hT
    · iexact HT
  · iexists fx; isplitr
    · ipureintro; exact hx
    · iexact Hx

theorem wp_arrive {O : CellTallies nD τ sig (HIx 1)} {W : Waits sig (HIx 1)} (hO : ∀ g, O g none = 0)
    (sem : DmaSem sig) {q : PosShare TreeShare} {T : ℕ → F .f32} {X : ℕ → BitVec 32}
    {hsrc : (flat arg2).view.WordExact} {hdst : gM.view.WordExact} {k : PUnit → TP F i α} {Q : α → sProp 𝕄} :
    iprop(Flying d i arg2 xM gM sem q T X ∗ Owing (F := F) (tt d i) O W)
      ⊢ iprop((Tbl d i arg2 q T -∗ Row (tt d i) gM 4096 (fun p => T (X p).toNat) -∗ Row (F := F) (tt d i) xM 4096 X -∗ semVal (tt d i, SemLoc.dma sem) 0
          -∗ Owing (F := F) (tt d i) O W -∗ wp frame (wpE (defs₀ (F := F)) 𝒱₀ (tt d i) none) Set.univ (k ⟨⟩) Q)
        -∗ wp frame (wpE (defs₀ (F := F)) 𝒱₀ (tt d i) none) Set.univ (SparseCore.waitIndirectGather sem (flat arg2) gM hsrc hdst >>= k) Q) := by
  iintro ⟨Hfl, HO⟩ Hk
  unfold Flying
  iapply (wp_landed d hO sem) $$ [Hfl HO]
  · isplitl [Hfl]; · iexact Hfl
    iexact HO
  iintro ⟨Hg, HT, Hx⟩ Hv HO
  iapply Hk $$ HT Hg Hx Hv HO

end

end Cert.Proof.Task
-- ==== Proof.Slot.lean ====
/-
  The two slots of a task: an index list, a row of fetched values, a semaphore and a half of the table's share. A slot is
  idle, ready (its index list built) or flying (its gather issued), and the task moves it round.
-/
module

public import proofs.«01_k».proof.Proof.Gather

@[expose] public section

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- An array held outright at unknown contents. -/
def Any (c : Thread nD τ) {sp : Space} {s : Shape} {e : EltTy} (r : Memref sig c.2.kind sp s e) : sProp 𝕄 :=
  iprop(∃ f, (r.view.loc c ↦[r.view.set]{fullShare} f))

/-- An array held outright at known contents. -/
def Known (c : Thread nD τ) {sp : Space} {s : Shape} {e : EltTy} (r : Memref sig c.2.kind sp s e) (G : s.Idx → Elt F e) : sProp 𝕄 :=
  iprop(∃ f, ⌜∀ y, r.view.read (Elt F) f y = G y⌝ ∗ (r.view.loc c ↦[r.view.set]{fullShare} f))

theorem any_of_known (c : Thread nD τ) {sp : Space} {s : Shape} {e : EltTy} (r : Memref sig c.2.kind sp s e) {G : s.Idx → Elt F e} :
    (Known c r G : sProp 𝕄) ⊢ Any c r := by
  unfold Known Any
  iintro ⟨%f, -, H⟩
  iexists f; iexact H

section

variable (c : Thread nD τ) {N n : ℕ} {e : EltTy} (r : Memref sig c.2.kind .vmem ⟨1, ![N]⟩ e)

theorem any_of_row {G : ℕ → Elt F e} : (Row c r n G : sProp 𝕄) ⊢ Any c r := by
  unfold Row Any
  iintro ⟨%f, -, H⟩
  iexists f; iexact H

theorem row_of_any (G : ℕ → Elt F e) : (Any (F := F) c r : sProp 𝕄) ⊢ Row c r 0 G := by
  unfold Row Any
  iintro ⟨%f, H⟩
  iexists f; isplitr
  · ipureintro; exact fun y hy => absurd hy (Nat.not_lt_zero _)
  · iexact H

theorem known_of_row {G : ℕ → Elt F e} (hn : N ≤ n) : (Row c r n G : sProp 𝕄) ⊢ Known c r fun y => G (y 0).val := by
  unfold Row Known
  iintro ⟨%f, %hf, H⟩
  iexists f; isplitr
  · ipureintro; exact fun y => hf y (lt_of_lt_of_le (y 0).isLt hn)
  · iexact H

theorem row_of_known {G : ℕ → Elt F e} : (Known (F := F) c r (fun y => G (y 0).val) : sProp 𝕄) ⊢ Row c r n G := by
  unfold Row Known
  iintro ⟨%f, %hf, H⟩
  iexists f; isplitr
  · ipureintro; exact fun y _ => hf y
  · iexact H

end

section

variable (d : Dev nD) {i : grid0.Coords} {α : Type}

/-- A copy of a known array onto another, and its wait. -/
theorem wp_copy {O : CellTallies nD τ sig (HIx 1)} {W : Waits sig (HIx 1)} (hO : ∀ g, O g none = 0)
    {s : Shape} {e : EltTy} {sp sp' : Space} (sem : DmaSem sig) (hs : 0 < s.numel)
    (src : Memref sig (tt d i).2.kind sp s e) (dst : Memref sig (tt d i).2.kind sp' s e) {hsrc : src.view.WordExact} {hdst : dst.view.WordExact}
    {hsem : DmaTarget.Typed (nD := nD) sp (.dma sem) (.here (p := (tt d i).2) dst)} {hsrc' : src.view.WordExact} {hdst' : dst.view.WordExact}
    {G : s.Idx → Elt F e} {k : PUnit → TP F i α} {Q : α → sProp 𝕄} :
    iprop(Known (tt d i) src G ∗ Any (F := F) (tt d i) dst ∗ semVal (tt d i, SemLoc.dma sem) 0 ∗ Owing (F := F) (tt d i) O W)
      ⊢ iprop((Known (tt d i) src G -∗ Known (tt d i) dst G -∗ semVal (tt d i, SemLoc.dma sem) 0 -∗ Owing (F := F) (tt d i) O W
          -∗ wp frame (wpE (defs₀ (F := F)) 𝒱₀ (tt d i) none) Set.univ (k ⟨⟩) Q)
        -∗ wp frame (wpE (defs₀ (F := F)) 𝒱₀ (tt d i) none) Set.univ
          (.op (.enqueueDma src (.here dst) (.dma sem) hsrc hdst hsem) fun _ => .op (.waitDma2 sem src dst hsrc' hdst') k) Q) := by
  unfold Known Any
  iintro ⟨⟨%fs, %hfs, Hs⟩, ⟨%fd, Hd⟩, Hv, HO⟩ Hk
  iapply (wp_copied d hO sem hs) $$ [Hs Hd Hv HO]
  · isplitl [Hs]; · iexact Hs
    isplitl [Hd]; · iexact Hd
    isplitl [Hv]; · iexact Hv
    iexact HO
  iintro Hs Hd Hv HO
  iapply Hk $$ [Hs] [Hd] Hv HO
  · iexists fs; isplitr
    · ipureintro; exact hfs
    · iexact Hs
  · iexists _; isplitr
    swap; · iexact Hd
    ipureintro
    intro y
    rw [View.read_write_univ]
    exact hfs y

variable (arg2 : Memref sig .scVector .hbm S67108864 .f32) (aM : Memref sig .scVector .vmem S32768 .i32) (lM : Memref sig .scVector .vmem S64 .i32)
  (hM : Memref sig .scVector .vmem S64 .f32)

variable (i) in
/-- The tile's words, the column places and the counts past `m` chunks. -/
def Core (a : ℕ → BitVec 32) (m : ℕ) : sProp 𝕄 :=
  iprop(Row (F := F) (tt d i) aM 32768 a ∗ Row (F := F) (tt d i) lM 64 lutW ∗ Row (tt d i) hM 64 (histN a (256 * m)))

variable (xM : Memref sig .scVector .vmem S4096 .i32) (gM : Memref sig .scVector .vmem S4096 .f32)
  (xM' : Memref sig .scVector .vmem S4096 .i32) (gM' : Memref sig .scVector .vmem S4096 .f32)

variable (i) in
def Idle (sem : DmaSem sig) (q : PosShare TreeShare) (T : ℕ → F .f32) : sProp 𝕄 :=
  iprop(Any (F := F) (tt d i) xM ∗ Any (F := F) (tt d i) gM ∗ Tbl d i arg2 q T ∗ semVal (tt d i, SemLoc.dma sem) 0)

variable (i) in
def Ready (sem : DmaSem sig) (q : PosShare TreeShare) (T : ℕ → F .f32) (X : ℕ → BitVec 32) : sProp 𝕄 :=
  iprop(Row (F := F) (tt d i) xM 4096 X ∗ Any (F := F) (tt d i) gM ∗ Tbl d i arg2 q T ∗ semVal (tt d i, SemLoc.dma sem) 0)

/-- The index list of a chunk. -/
def list (w : ℕ) (a : ℕ → BitVec 32) (q : ℕ) : ℕ → BitVec 32 := fun p => word w a (4096 * q + p)

theorem list_lt {a : ℕ → BitVec 32} (ha : ∀ p, p < 32768 → (a p).toNat < 64) {w : ℕ} (hw : w < 32) (q : ℕ) (hq : q < 8) (p : ℕ) (hp : p < 4096) :
    (list w a q p).toNat < 67108864 := by
  unfold list
  rw [word_toNat w a _ hw (by omega) (ha _ (by omega))]
  exact place_lt _ _ (by omega) (ha _ (by omega))

/-- The index list of chunk `q` built into an idle slot. -/
theorem wp_ready {a : ℕ → BitVec 32} (ha : ∀ p, p < 32768 → (a p).toNat < 64) {w : ℕ} (hw : w < 32) (q q' : ℕ) (hq : q < 8) (hq' : q + 1 = q') (sem : DmaSem sig)
    (sh : PosShare TreeShare) (T : ℕ → F .f32)
    (l : Scf.Loop 32) (hl : l.trips = 32) {ok : Scf.OK l.lb l.ub l.st} {body : Fin l.trips → Unit → TP F i Unit} {vv : BitVec 32} (hvv : vv = BitVec.ofNat 32 (256 * w + 32 * q))
    (hb : ∀ t u, body t u = tripP aM lM xM hM ⟨q, hq⟩ lanes vv (Fin.cast hl t) u) {k : Unit → TP F i α} {Q : α → sProp 𝕄} :
    iprop(Core d i aM lM hM a q ∗ Idle d i arg2 xM gM sem sh T)
      ⊢ iprop((Core d i aM lM hM a q' -∗ Ready d i arg2 xM gM sem sh T (list w a q)
          -∗ wp frame (wpE (defs₀ (F := F)) 𝒱₀ (tt d i) none) Set.univ (k ()) Q)
        -∗ wp frame (wpE (defs₀ (F := F)) 𝒱₀ (tt d i) none) Set.univ (Scf.for l.lb l.ub l.st ok () body >>= k) Q) := by
  subst hq'
  unfold Core Idle Ready
  iintro ⟨⟨Ha, Hl, Hh⟩, Hx, Hg, HT, Hv⟩ Hk
  ihave Hx := (row_of_any (tt d i) xM (list w a q)) $$ Hx
  iapply (wp_build d aM lM xM hM ha w hw ⟨q, hq⟩ l hl hvv hb) $$ [Ha Hl Hh Hx]
  · unfold Built
    isplitl [Ha]; · iexact Ha
    isplitl [Hl]; · iexact Hl
    isplitl [Hx]; · iexact Hx
    iexact Hh
  unfold Built
  iintro ⟨Ha, Hl, Hx, Hh⟩
  iapply Hk $$ [Ha Hl Hh] [Hx Hg HT Hv]
  · isplitl [Ha]; · iexact Ha
    isplitl [Hl]; · iexact Hl
    iapply (Entails.of_eq (show (Row (tt d i) hM 64 (histN a (256 * q + 256)) : sProp 𝕄) = Row (tt d i) hM 64 (histN a (256 * (q + 1))) by
      rw [Nat.mul_add]))
    iexact Hh
  · isplitl [Hx]; · iexact Hx
    isplitl [Hg]; · iexact Hg
    isplitl [HT]; · iexact HT
    iexact Hv

/-- A ready slot's gather issued. -/
theorem wp_launch {X : ℕ → BitVec 32} (hX : ∀ p, p < 4096 → (X p).toNat < 67108864) (sem : DmaSem sig)
    (hcr : ∀ s' : Shape, sig.dmaCredit .scVector (Kind.table .scVector .vmem) gM.view.buf s' .f32 = s'.numel * EltTy.f32.bits)
    {sh : PosShare TreeShare} {T : ℕ → F .f32} {hsrc : (flat arg2).view.WordExact} {k : PUnit → TP F i α} {Q : α → sProp 𝕄} :
    (Ready d i arg2 xM gM sem sh T X : sProp 𝕄)
      ⊢ iprop((Flying d i arg2 xM gM sem sh T X -∗ wp frame (wpE (defs₀ (F := F)) 𝒱₀ (tt d i) none) Set.univ (k ⟨⟩) Q)
        -∗ wp frame (wpE (defs₀ (F := F)) 𝒱₀ (tt d i) none) Set.univ
          (SparseCore.enqueueIndirectGather rfl (flat arg2) gM gathers_S67108864_S4096 xM rfl sem hsrc rfl (Or.inl rfl) >>= k) Q) := by
  unfold Ready
  iintro ⟨Hx, Hg, HT, Hv⟩ Hk
  ihave Hg := (row_of_any (tt d i) gM fun _ => Scalar.ofBits .f32 0x00000000#32) $$ Hg
  iapply (wp_issue d arg2 xM gM sem hcr hX) $$ [Hx Hg HT Hv]
  · isplitl [HT]; · iexact HT
    isplitl [Hg]; · iexact Hg
    isplitl [Hx]; · iexact Hx
    iexact Hv
  iintro H
  iapply Hk
  iexact H

/-- A flying slot awaited and its chunk added up. -/
theorem wp_drain {O : CellTallies nD τ sig (HIx 1)} {W : Waits sig (HIx 1)} (hO : ∀ g, O g none = 0) (w : ℕ) (a : ℕ → BitVec 32) (q q' : ℕ) (hq : q < 8) (hq' : q + 1 = q')
    (sem : DmaSem sig) {sh : PosShare TreeShare} {T : ℕ → F .f32} {hsrc : (flat arg2).view.WordExact} {hdst : gM.view.WordExact}
    (l : Scf.Loop 32) (hl : l.trips = 32) {ok : Scf.OK l.lb l.ub l.st}
    {body : Fin l.trips → FVec F S16 .f32 × FVec F S16 .f32 → TP F i (FVec F S16 .f32 × FVec F S16 .f32)}
    (hb : ∀ t u, body t u = addP gM (Fin.cast hl t) u) {k : FVec F S16 .f32 × FVec F S16 .f32 → TP F i α} {Q : α → sProp 𝕄} :
    iprop(Flying d i arg2 xM gM sem sh T (list w a q) ∗ Owing (F := F) (tt d i) O W)
      ⊢ iprop((Idle d i arg2 xM gM sem sh T -∗ Owing (F := F) (tt d i) O W
          -∗ wp frame (wpE (defs₀ (F := F)) 𝒱₀ (tt d i) none) Set.univ (k (accN (got w a T) 0 (32 * q'), accN (got w a T) 1 (32 * q'))) Q)
        -∗ wp frame (wpE (defs₀ (F := F)) 𝒱₀ (tt d i) none) Set.univ (SparseCore.waitIndirectGather sem (flat arg2) gM hsrc hdst >>= fun _ =>
            Scf.for l.lb l.ub l.st ok (accN (got w a T) 0 (32 * q), accN (got w a T) 1 (32 * q)) body >>= k) Q) := by
  subst hq'
  iintro ⟨Hfl, HO⟩ Hk
  iapply (wp_arrive d arg2 xM gM hO sem) $$ [Hfl HO]
  · isplitl [Hfl]; · iexact Hfl
    iexact HO
  iintro HT Hg Hx Hv HO
  iapply (wp_add d gM (got w a T) ⟨q, hq⟩ l hl hb) $$ [Hg]
  · iexact Hg
  iintro Hg
  iapply Hk $$ [HT Hg Hx Hv] HO
  unfold Idle
  isplitl [Hx]; · iapply (any_of_row (tt d i) xM); iexact Hx
  isplitl [Hg]; · iapply (any_of_row (tt d i) gM); iexact Hg
  isplitl [HT]; · iexact HT
  iexact Hv

/-- The other slot launched, this one awaited and added up. -/
theorem wp_turn {O : CellTallies nD τ sig (HIx 1)} {W : Waits sig (HIx 1)} (hO : ∀ g, O g none = 0) {w : ℕ} (hw : w < 32) {a : ℕ → BitVec 32}
    (ha : ∀ p, p < 32768 → (a p).toNat < 64) (q q' : ℕ) (hq : q < 7) (hq' : q + 1 = q') (sem sem' : DmaSem sig)
    (hcr : ∀ s' : Shape, sig.dmaCredit .scVector (Kind.table .scVector .vmem) gM'.view.buf s' .f32 = s'.numel * EltTy.f32.bits)
    {sh sh' : PosShare TreeShare} {T : ℕ → F .f32} {hsrc hsrc' : (flat arg2).view.WordExact} {hdst : gM.view.WordExact}
    (l : Scf.Loop 32) (hl : l.trips = 32) {ok : Scf.OK l.lb l.ub l.st}
    {body : Fin l.trips → FVec F S16 .f32 × FVec F S16 .f32 → TP F i (FVec F S16 .f32 × FVec F S16 .f32)}
    (hb : ∀ t u, body t u = addP gM (Fin.cast hl t) u) {k : FVec F S16 .f32 × FVec F S16 .f32 → TP F i α} {Q : α → sProp 𝕄} :
    iprop(Flying d i arg2 xM gM sem sh T (list w a q) ∗ Ready d i arg2 xM' gM' sem' sh' T (list w a q') ∗ Owing (F := F) (tt d i) O W)
      ⊢ iprop((Idle d i arg2 xM gM sem sh T -∗ Flying d i arg2 xM' gM' sem' sh' T (list w a q') -∗ Owing (F := F) (tt d i) O W
          -∗ wp frame (wpE (defs₀ (F := F)) 𝒱₀ (tt d i) none) Set.univ (k (accN (got w a T) 0 (32 * q'), accN (got w a T) 1 (32 * q'))) Q)
        -∗ wp frame (wpE (defs₀ (F := F)) 𝒱₀ (tt d i) none) Set.univ
          (SparseCore.enqueueIndirectGather rfl (flat arg2) gM' gathers_S67108864_S4096 xM' rfl sem' hsrc' rfl (Or.inl rfl) >>= fun _ =>
            SparseCore.waitIndirectGather sem (flat arg2) gM hsrc hdst >>= fun _ =>
            Scf.for l.lb l.ub l.st ok (accN (got w a T) 0 (32 * q), accN (got w a T) 1 (32 * q)) body >>= k) Q) := by
  iintro ⟨Hfl, Hr, HO⟩ Hk
  iapply (wp_launch d arg2 xM' gM' (list_lt ha hw q' (by omega)) sem' hcr) $$ Hr
  iintro Hfl'
  iapply (wp_drain d arg2 xM gM hO w a q q' (by omega) hq' sem l hl hb) $$ [Hfl HO]
  · isplitl [Hfl]; · iexact Hfl
    iexact HO
  iintro Hi HO
  iapply Hk $$ Hi Hfl' HO

end

end Cert.Proof.Task
-- ==== Proof.Tile.lean ====
/-
  The program of one tile, at a symbolic pair of SparseCore and tile: the words copied in, eight chunks through the two
  slots, the sums and the counts copied out.
-/
module

public import proofs.«01_k».proof.Proof.Slot

@[expose] public section

set_option maxRecDepth 65536

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev tabV : Memref sig .scVector .hbm S67108864 .f32 := Memref.whole main_v2_scv
abbrev asgV : Memref sig .scVector .hbm S1048576 .i32 := Memref.whole main_arg1_scv
abbrev sumV : Memref sig .scVector .hbm S32x16 .f32 := Memref.whole main_v3_0_scv
abbrev cntV : Memref sig .scVector .hbm S32x64 .f32 := Memref.whole main_v3_1_scv
abbrev aV : Memref sig .scVector .vmem S32768 .i32 := Memref.whole cc0_scratch0
abbrev lV : Memref sig .scVector .vmem S64 .i32 := Memref.whole cc0_scratch1
abbrev xA : Memref sig .scVector .vmem S4096 .i32 := Memref.whole cc0_scratch2
abbrev xB : Memref sig .scVector .vmem S4096 .i32 := Memref.whole cc0_scratch3
abbrev gA : Memref sig .scVector .vmem S4096 .f32 := Memref.whole cc0_scratch4
abbrev gB : Memref sig .scVector .vmem S4096 .f32 := Memref.whole cc0_scratch5
abbrev hV : Memref sig .scVector .vmem S64 .f32 := Memref.whole cc0_scratch6
abbrev sV : Memref sig .scVector .vmem S16 .f32 := Memref.whole cc0_scratch7

/-- The tile's number. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

variable (i : grid0.Coords)

/-- The tile's slice of the words, and its rows of the two results. -/
abbrev asgI : Memref sig .scVector .hbm S32768 .i32 :=
  asgV.slice (Rect.unit (s := S1048576) (k0_off1 i) S32768.size (k0_off1_inb i)) (fun _ => rfl)
abbrev sumI : Memref sig .scVector .hbm S16 .f32 :=
  (sumV.slice (Rect.unit (s := S32x16) (k0_off138 i) S1x16.size (k0_off138_inb i)) (fun _ => rfl)).squeeze S16 squeezes_S1x16_S16
abbrev cntI : Memref sig .scVector .hbm S64 .f32 :=
  (cntV.slice (Rect.unit (s := S32x64) (k0_off139 i) S1x64.size (k0_off139_inb i)) (fun _ => rfl)).squeeze S64 squeezes_S1x64_S64

/-- The first row of 128 of chunk `q`. -/
theorem chunk_row (q : Fin 8) :
    Scalar.shrsi (Scalar.addi (Scalar.muli (Scalar.addi (Scalar.muli (BitVec.ofNat 32 (i 1).val) 2#32) (BitVec.ofNat 32 (i 0).val)) 32768#32)
      (BitVec.ofNat 32 (4096 * q.val))) 7#32 = BitVec.ofNat 32 (256 * wid i + 32 * q.val) := by
  revert i q; decide +kernel

theorem lut0 : ∀ x : S16.Idx, k0_pay107 x = lutW (0 + (x 0).val) := by decide +kernel
theorem lut16 : ∀ x : S16.Idx, k0_pay108 x = lutW (16 + (x 0).val) := by decide +kernel
theorem lut32 : ∀ x : S16.Idx, k0_pay109 lanes x = lutW (32 + (x 0).val) := by decide +kernel
theorem lut48 : ∀ x : S16.Idx, k0_pay110 lanes x = lutW (48 + (x 0).val) := by decide +kernel

/-- What the tile holds of its own: its scratch and its five semaphores. -/
def Own (d : Dev nD) : sProp 𝕄 :=
  iprop(Any (F := F) (tt d i) aV ∗ Any (F := F) (tt d i) lV ∗ Any (F := F) (tt d i) hV ∗ Any (F := F) (tt d i) sV
    ∗ (Any (F := F) (tt d i) xA ∗ Any (F := F) (tt d i) gA ∗ semVal (tt d i, SemLoc.dma cc0_scratch8.sem) 0)
    ∗ (Any (F := F) (tt d i) xB ∗ Any (F := F) (tt d i) gB ∗ semVal (tt d i, SemLoc.dma cc0_scratch9.sem) 0)
    ∗ semVal (tt d i, SemLoc.dma cc0_scoped0.sem) 0 ∗ semVal (tt d i, SemLoc.dma cc0_scoped1.sem) 0 ∗ semVal (tt d i, SemLoc.dma cc0_scoped2.sem) 0)

/-- Lane `p`. -/
def atLane (p : ℕ) : S16.Idx := fun a => ⟨p % 16, lt_of_lt_of_eq (Nat.mod_lt _ (by decide)) (by obtain rfl := Fin.eq_zero a; rfl)⟩

theorem atLane_val (x : S16.Idx) : atLane (x 0).val = x := by
  have hx : (x 0).val < 16 := (x 0).isLt
  funext a
  obtain rfl := Fin.eq_zero a
  exact Fin.ext (Nat.mod_eq_of_lt hx)

/-- The whole program of a tile. -/
theorem tile (d : Dev nD) {a : ℕ → BitVec 32} (ha : ∀ p, p < 32768 → (a p).toNat < 64) (T : ℕ → F .f32) (shA shB : PosShare TreeShare)
    {O : CellTallies nD τ sig (HIx 1)} {W : Waits sig (HIx 1)} (hO : ∀ g, O g none = 0) :
    iprop(Known (F := F) (tt d i) (asgI i) (fun y => a (y 0).val) ∗ Tbl d i tabV shA T ∗ Tbl d i tabV shB T ∗ Any (F := F) (tt d i) (sumI i) ∗ Any (F := F) (tt d i) (cntI i)
        ∗ Own (F := F) i d ∗ Owing (F := F) (tt d i) O W)
      ⊢ wp frame (wpE (defs₀ (F := F)) 𝒱₀ (tt d i) none) Set.univ
          (cc0__sc_body i tabV (Memref.isWhole_whole _) asgV (Memref.isWhole_whole _) sumV (Memref.isWhole_whole _) cntV (Memref.isWhole_whole _)
            aV (Memref.isWhole_whole _) lV (Memref.isWhole_whole _) xA (Memref.isWhole_whole _) xB (Memref.isWhole_whole _) gA (Memref.isWhole_whole _)
            gB (Memref.isWhole_whole _) hV (Memref.isWhole_whole _) sV (Memref.isWhole_whole _) cc0_scratch8 cc0_scratch9 cc0_scoped0 cc0_scoped1 cc0_scoped2)
          fun _ => iprop(Known (F := F) (tt d i) (asgI i) (fun y => a (y 0).val) ∗ Tbl d i tabV shA T ∗ Tbl d i tabV shB T
            ∗ Known (F := F) (tt d i) (sumI i) (sums (wid i) a T) ∗ Known (F := F) (tt d i) (cntI i) (fun y => counts a (y 0).val)
            ∗ Own (F := F) i d ∗ Owing (F := F) (tt d i) O W) := by
  have hw := wid_lt i
  simp only [cc0__sc_body_eq_skeleton, k0_part17_eq_skeleton, k0_part18_eq_skeleton, k0_part19_eq_skeleton, k0_part20_eq_skeleton, k0_part21_eq_skeleton]
  unfold Own
  iintro ⟨Hi, HTA, HTB, Hos, Hoc, ⟨Ha, Hl, Hh, Hs, ⟨HxA, HgA, HvA⟩, ⟨HxB, HgB, HvB⟩, Hv0, Hv1, Hv2⟩, HO⟩
  unfold cc0__sc_body_skel
  simp only [k0_part17_eq_skeleton]
  unfold k0_part17_skel
  simp only [Prog.bind_lift, bind_assoc, pure_bind, Prog.bind_op]
  -- the words in, the zeros and the first column places
  iapply (wp_copy d hO cc0_scoped0.sem (by decide) (asgI i) aV) $$ [Hi Ha Hv0 HO]
  · isplitl [Hi]; · iexact Hi
    isplitl [Ha]; · iexact Ha
    isplitl [Hv0]; · iexact Hv0
    iexact HO
  iintro Hi Ha Hv0 HO
  ihave Ha := (row_of_known (tt d i) aV (n := 32768)) $$ Ha
  ihave Hl := (row_of_any (tt d i) lV lutW) $$ Hl
  ihave Hh := (row_of_any (tt d i) hV (histN (F := F) a 0)) $$ Hh
  iapply (wp_fill d _ _ hV _ inb_S64_S16_0 0 rfl (fun _ => rfl)) $$ Hh; iintro Hh
  iapply (wp_fill d _ _ lV _ inb_S64_S16_0 0 rfl lut0) $$ Hl; iintro Hl
  iapply (wp_fill d _ _ hV _ inb_S64_S16_16 16 rfl (fun _ => rfl)) $$ Hh; iintro Hh
  simp only [k0_part18_eq_skeleton]
  unfold k0_part18_skel
  simp only [Prog.bind_lift, bind_assoc, pure_bind, Prog.bind_op]
  iapply (wp_fill d _ _ lV _ inb_S64_S16_16 16 rfl lut16) $$ Hl; iintro Hl
  iapply (wp_fill d _ _ hV _ inb_S64_S16_32 32 rfl (fun _ => rfl)) $$ Hh; iintro Hh
  iapply (wp_fill d _ _ lV _ inb_S64_S16_32 32 rfl lut32) $$ Hl; iintro Hl
  iapply (wp_fill d _ _ hV _ inb_S64_S16_48 48 rfl (fun _ => rfl)) $$ Hh; iintro Hh
  iapply (wp_fill d _ _ lV _ inb_S64_S16_48 48 rfl lut48) $$ Hl; iintro Hl
  ihave Hc := (show iprop(Row (F := F) (tt d i) aV 32768 a ∗ Row (F := F) (tt d i) lV 64 lutW ∗ Row (tt d i) hV 64 (histN a 0)) ⊢ Core d i aV lV hV a 0 from .rfl) $$ [Ha Hl Hh]
  · isplitl [Ha]; · iexact Ha
    isplitl [Hl] <;> iassumption
  ihave HA := (show iprop(Any (F := F) (tt d i) xA ∗ Any (F := F) (tt d i) gA ∗ Tbl d i tabV shA T ∗ semVal (tt d i, SemLoc.dma cc0_scratch8.sem) 0)
    ⊢ Idle d i tabV xA gA cc0_scratch8.sem shA T from .rfl) $$ [HxA HgA HTA HvA]
  · isplitl [HxA]; · iexact HxA
    isplitl [HgA]; · iexact HgA
    isplitl [HTA] <;> iassumption
  ihave HB := (show iprop(Any (F := F) (tt d i) xB ∗ Any (F := F) (tt d i) gB ∗ Tbl d i tabV shB T ∗ semVal (tt d i, SemLoc.dma cc0_scratch9.sem) 0)
    ⊢ Idle d i tabV xB gB cc0_scratch9.sem shB T from .rfl) $$ [HxB HgB HTB HvB]
  · isplitl [HxB]; · iexact HxB
    isplitl [HgB]; · iexact HgB
    isplitl [HTB] <;> iassumption
  -- the chunks
  iapply (wp_ready d tabV aV lV hV xA gA ha hw 0 1 (by decide) rfl cc0_scratch8.sem shA T k0_t1_loop (by decide +kernel) (chunk_row i 0) (fun _ _ => rfl)) $$ [Hc HA]
  · isplitl [Hc] <;> iassumption
  iintro Hc HA
  simp only [k0_part19_eq_skeleton]
  unfold k0_part19_skel
  simp only [bind_assoc, pure_bind]
  iapply (wp_launch d tabV xA gA (list_lt ha hw 0 (by decide)) cc0_scratch8.sem (fun _ => rfl)) $$ HA; iintro HA
  iapply (wp_ready d tabV aV lV hV xB gB ha hw 1 2 (by decide) rfl cc0_scratch9.sem shB T k0_t2_loop (by decide +kernel) (chunk_row i 1) (fun _ _ => rfl)) $$ [Hc HB]
  · isplitl [Hc] <;> iassumption
  iintro Hc HB
  iapply (wp_turn d tabV xA gA xB gB hO hw ha 0 1 (by decide) rfl cc0_scratch8.sem cc0_scratch9.sem (fun _ => rfl) k0_t3_loop (by decide +kernel) (fun _ _ => rfl)) $$ [HA HB HO]
  · isplitl [HA]; · iexact HA
    isplitl [HB] <;> iassumption
  iintro HA HB HO
  iapply (wp_ready d tabV aV lV hV xA gA ha hw 2 3 (by decide) rfl cc0_scratch8.sem shA T k0_t4_loop (by decide +kernel) (chunk_row i 2) (fun _ _ => rfl)) $$ [Hc HA]
  · isplitl [Hc] <;> iassumption
  iintro Hc HA
  iapply (wp_turn d tabV xB gB xA gA hO hw ha 1 2 (by decide) rfl cc0_scratch9.sem cc0_scratch8.sem (fun _ => rfl) k0_t5_loop (by decide +kernel) (fun _ _ => rfl)) $$ [HB HA HO]
  · isplitl [HB]; · iexact HB
    isplitl [HA] <;> iassumption
  iintro HB HA HO
  iapply (wp_ready d tabV aV lV hV xB gB ha hw 3 4 (by decide) rfl cc0_scratch9.sem shB T k0_t6_loop (by decide +kernel) (chunk_row i 3) (fun _ _ => rfl)) $$ [Hc HB]
  · isplitl [Hc] <;> iassumption
  iintro Hc HB
  simp only [k0_part20_eq_skeleton]
  unfold k0_part20_skel
  simp only [bind_assoc, pure_bind]
  iapply (wp_turn d tabV xA gA xB gB hO hw ha 2 3 (by decide) rfl cc0_scratch8.sem cc0_scratch9.sem (fun _ => rfl) k0_t7_loop (by decide +kernel) (fun _ _ => rfl)) $$ [HA HB HO]
  · isplitl [HA]; · iexact HA
    isplitl [HB] <;> iassumption
  iintro HA HB HO
  iapply (wp_ready d tabV aV lV hV xA gA ha hw 4 5 (by decide) rfl cc0_scratch8.sem shA T k0_t8_loop (by decide +kernel) (chunk_row i 4) (fun _ _ => rfl)) $$ [Hc HA]
  · isplitl [Hc] <;> iassumption
  iintro Hc HA
  iapply (wp_turn d tabV xB gB xA gA hO hw ha 3 4 (by decide) rfl cc0_scratch9.sem cc0_scratch8.sem (fun _ => rfl) k0_t9_loop (by decide +kernel) (fun _ _ => rfl)) $$ [HB HA HO]
  · isplitl [HB]; · iexact HB
    isplitl [HA] <;> iassumption
  iintro HB HA HO
  iapply (wp_ready d tabV aV lV hV xB gB ha hw 5 6 (by decide) rfl cc0_scratch9.sem shB T k0_t10_loop (by decide +kernel) (chunk_row i 5) (fun _ _ => rfl)) $$ [Hc HB]
  · isplitl [Hc] <;> iassumption
  iintro Hc HB
  iapply (wp_turn d tabV xA gA xB gB hO hw ha 4 5 (by decide) rfl cc0_scratch8.sem cc0_scratch9.sem (fun _ => rfl) k0_t11_loop (by decide +kernel) (fun _ _ => rfl)) $$ [HA HB HO]
  · isplitl [HA]; · iexact HA
    isplitl [HB] <;> iassumption
  iintro HA HB HO
  simp only [k0_part21_eq_skeleton]
  unfold k0_part21_skel
  simp only [bind_assoc, pure_bind]
  iapply (wp_ready d tabV aV lV hV xA gA ha hw 6 7 (by decide) rfl cc0_scratch8.sem shA T k0_t12_loop (by decide +kernel) (chunk_row i 6) (fun _ _ => rfl)) $$ [Hc HA]
  · isplitl [Hc] <;> iassumption
  iintro Hc HA
  iapply (wp_turn d tabV xB gB xA gA hO hw ha 5 6 (by decide) rfl cc0_scratch9.sem cc0_scratch8.sem (fun _ => rfl) k0_t13_loop (by decide +kernel) (fun _ _ => rfl)) $$ [HB HA HO]
  · isplitl [HB]; · iexact HB
    isplitl [HA] <;> iassumption
  iintro HB HA HO
  iapply (wp_ready d tabV aV lV hV xB gB ha hw 7 8 (by decide) rfl cc0_scratch9.sem shB T k0_t14_loop (by decide +kernel) (chunk_row i 7) (fun _ _ => rfl)) $$ [Hc HB]
  · isplitl [Hc] <;> iassumption
  iintro Hc HB
  iapply (wp_turn d tabV xA gA xB gB hO hw ha 6 7 (by decide) rfl cc0_scratch8.sem cc0_scratch9.sem (fun _ => rfl) k0_t15_loop (by decide +kernel) (fun _ _ => rfl)) $$ [HA HB HO]
  · isplitl [HA]; · iexact HA
    isplitl [HB] <;> iassumption
  iintro HA HB HO
  iapply (wp_drain d tabV xB gB hO (wid i) a 7 8 (by decide) rfl cc0_scratch9.sem k0_t16_loop (by decide +kernel) (fun _ _ => rfl)) $$ [HB HO]
  · isplitl [HB] <;> iassumption
  iintro HB HO
  simp only [Prog.bind_lift]
  -- the two results out
  ihave Hs := (row_of_any (tt d i) sV fun p => sums (wid i) a T (atLane p)) $$ Hs
  iapply (wp_fill d _ _ sV _ inb_S16_S16_0 0 rfl (fun x => by
    rw [Nat.zero_add, atLane_val]; rfl)) $$ Hs
  iintro Hs
  ihave Hs := (known_of_row (tt d i) sV (by decide)) $$ Hs
  iapply (wp_copy d hO cc0_scoped1.sem (by decide) sV (sumI i)) $$ [Hs Hos Hv1 HO]
  · isplitl [Hs]; · iexact Hs
    isplitl [Hos]; · iexact Hos
    isplitl [Hv1] <;> iassumption
  iintro Hs Hos Hv1 HO
  unfold Core
  icases Hc with ⟨Ha, Hl, Hh⟩
  ihave Hh := (known_of_row (tt d i) hV (by decide)) $$ Hh
  iapply (wp_copy d hO cc0_scoped2.sem (by decide) hV (cntI i)) $$ [Hh Hoc Hv2 HO]
  · isplitl [Hh]; · iexact Hh
    isplitl [Hoc]; · iexact Hoc
    isplitl [Hv2] <;> iassumption
  iintro Hh Hoc Hv2 HO
  rw [wp_pure]
  imodintro
  unfold Idle
  icases HA with ⟨HxA, HgA, HTA, HvA⟩
  icases HB with ⟨HxB, HgB, HTB, HvB⟩
  isplitl [Hi]; · iexact Hi
  isplitl [HTA]; · iexact HTA
  isplitl [HTB]; · iexact HTB
  isplitl [Hos]
  · iapply (Entails.of_eq (congrArg (Known (F := F) (tt d i) (sumI i)) (funext fun y : S16.Idx => congrArg (sums (wid i) a T) (atLane_val y)))); iexact Hos
  isplitl [Hoc]; · iexact Hoc
  isplitr [HO]
  swap; · iexact HO
  isplitl [Ha]; · iapply (any_of_row (tt d i) aV); iexact Ha
  isplitl [Hl]; · iapply (any_of_row (tt d i) lV); iexact Hl
  isplitl [Hh]; · iapply (any_of_known (tt d i) hV); iexact Hh
  isplitl [Hs]; · iapply (any_of_known (tt d i) sV); iexact Hs
  isplitl [HxA HgA HvA]
  · isplitl [HxA]; · iexact HxA
    isplitl [HgA] <;> iassumption
  isplitl [HxB HgB HvB]
  · isplitl [HxB]; · iexact HxB
    isplitl [HgB] <;> iassumption
  isplitl [Hv0]; · iexact Hv0
  isplitl [Hv1] <;> iassumption

end Cert.Proof.Task
-- ==== Proof.Region.lean ====
/-
  The TensorCore's part: it reads the table of partial sums and the table of partial counts, and writes one number.
  The region is stated over any contents of the buffers it finds.
-/
module

public import proofs.«01_k».proof.Proof.Tile
public import proofs.«01_k».proof.Proof.Gen.KernelIdeal.Points
public import Idealize.ShloMosaic.Lib.Pipeline.RegionArraysS
public import Idealize.ShloMosaic.Lib.Pipeline.ValueKit.Partial
public import Idealize.ShloMosaic.Lib.VecWindow

@[expose] public section

noncomputable section

namespace Cert.Proof.Task

open Cert.KernelIdeal Cert.KernelIdeal.Gen Cert.Proof.Model

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig (HIx 1) (Elt F) ℕ UU ℕ

/-! ## Where the pipeline's ghost state lives -/

/-- The handshakes' rounds are the left component of the user state, the pipeline's the middle one. -/
abbrev EH : Emb UH (MT nD τ sig (HIx 1) (Elt F) ℕ UU ℕ) := embL

def EP : Emb UP (MT nD τ sig (HIx 1) (Elt F) ℕ UU ℕ) :=
  (Emb.inl : Emb UP (UP × Counters)).trans ((Emb.inr : Emb (UP × Counters) UU).trans (uEmb (nD := nD) (sig := sig) (Ix := HIx 1) (Val := Elt F) (Name := ℕ) (U := UU) (Lvl := ℕ)).toEmb)

instance EP_landsIn : (EP (F := F)).LandsIn (upEmb : UEmb _ 𝕄) := by unfold EP; infer_instance

abbrev adm : (p : Fin 1) → (pcfgs (F := F) p).Adm := fun p => (cfgs p).toPCfg_adm

/-! ## The body -/

/-- The number the region computes from the two tables. -/
abbrev loss (f0 : Vec F S32x16 .f32) (f1 : Vec F S32x64 .f32) : F .f32 := k1_pay1 f0 f1

theorem bodyRun (c : Dev nD) (f0 : Vec F S32x16 .f32) (f1 : Vec F S32x64 .f32) (f2 : Vec F S1x1 .f32)
    {Q : PUnit → sProp 𝕄} :
    iprop(((Memref.whole cc1_stg0_0).view.loc (c : Thread nD τ) ↦{fullShare} f0) ∗ ((Memref.whole cc1_stg1_0).view.loc (c : Thread nD τ) ↦{fullShare} f1)
      ∗ ((Memref.whole cc1_stg2_0).view.loc (c : Thread nD τ) ↦{fullShare} f2)
      ∗ (iprop(((Memref.whole cc1_stg0_0).view.loc (c : Thread nD τ) ↦{fullShare} f0) ∗ ((Memref.whole cc1_stg1_0).view.loc (c : Thread nD τ) ↦{fullShare} f1)
          ∗ ∃ g, ⌜g = (fun _ => loss f0 f1 : Vec F S1x1 .f32)⌝ ∗ ((Memref.whole cc1_stg2_0).view.loc (c : Thread nD τ) ↦{fullShare} g)) -∗ Q ⟨⟩))
    ⊢ wp frame (wpE (defs₀ (F := F)) 𝒱₀ c none) Set.univ
        (cc1__tc_body (Memref.whole cc1_stg0_0) (Memref.isWhole_whole _) (Memref.whole cc1_stg1_0) (Memref.isWhole_whole _)
          (Memref.whole cc1_stg2_0) (Memref.isWhole_whole _)) Q := by
  rw [cc1__tc_body_eq_skeleton]
  iintro ⟨H0, H1, H2, Hk⟩
  unfold cc1__tc_body_skel
  sl_exec!
  sl_step
  iapply Hk
  isplitl [H0]; · iexact H0
  isplitl [H1]; · iexact H1
  iexists _
  isplitr
  rotate_left
  · iexact H2
  ipureintro
  sl_unfold_words
  refine (View.read_writes_full (Val := Elt F) (Memref.whole cc1_stg2_0).view _ _ _ []).trans ?_
  funext x
  exact congrArg₂ k1_pay1 (View.readAt_full _ _ _) (View.readAt_full _ _ _)

/-! ## The region's proof data, over any contents of the buffers it finds -/

variable (W : Dev nD → Valuation τ sig (Elt F))

/-- The two tables as the region fetches them. -/
abbrev stgA (c : Dev nD) : Vec F S32x16 .f32 := ((cfg1.win 0).blk t1_0).view.read (Elt F) (W c (Proc.devRef .tc main_v3_0))
abbrev stgB (c : Dev nD) : Vec F S32x64 .f32 := ((cfg1.win 1).blk t1_0).view.read (Elt F) (W c (Proc.devRef .tc main_v3_1))

def dats (_ : Fin 1) (c : Dev nD) : Dat τ (Elt F) (HIx 1) ℕ UU ℕ cfg1 c where
  A w := W c (Proc.devRef .tc (Pipeline.arrRef spec1 w))
  after w _ := match w with
    | ⟨0, _⟩ => stgA W c
    | ⟨1, _⟩ => stgB W c
    | ⟨2, _⟩ => (fun _ => loss (stgA W c) (stgB W c) : Vec F S1x1 .f32)
  Φ _ := iprop(emp)
  q _ := fullShare
  owed _ := 0

theorem before_A (c : Dev nD) (d : (cfg1.win 0).block.Idx → Elt F (cfg1.win 0).elt) :
    (dats W 0 c).before 0 t1_0 d = stgA W c := by
  unfold Dat.before; rw [if_pos (fetch1_0 _)]; rfl

theorem before_B (c : Dev nD) (d : (cfg1.win 1).block.Idx → Elt F (cfg1.win 1).elt) :
    (dats W 0 c).before 1 t1_0 d = stgB W c := by
  unfold Dat.before; rw [if_pos (fetch1_1 _)]; rfl

theorem body_obligation (c : Dev nD) : BodyObligation (dats W 0 c) (defs₀ (F := F)) 𝒱₀ none Set.univ := fun t => by
  obtain rfl := fin_N1 t
  rw [bigSep_W1, bigSep_W1]
  simp only [owns_whole_eq]
  unfold Dat.owesAt Pipeline.owesWithin
  rw [show (dats W 0 c).owed t1_0.castSucc = 0 from rfl, show (dats W 0 c).owed t1_0.succ = 0 from rfl]
  iintro ⟨HΦ, ⟨%w, %hw, HO⟩, ⟨%d0, %f0, %hf0, H0⟩, ⟨%d1, %f1, %hf1, H1⟩, ⟨%d2, %f2, %hf2, H2⟩⟩
  rw [before_A] at hf0
  rw [before_B] at hf1
  subst hf0
  subst hf1
  iapply (bodyRun c (stgA W c) (stgB W c) f2)
  isplitl [H0]; · iexact H0
  isplitl [H1]; · iexact H1
  isplitl [H2]; · iexact H2
  iintro ⟨H0, H1, ⟨%g, %hg, H2⟩⟩
  isplitl [HΦ]; · rw [show (dats W 0 c).Φ t1_0.succ = (dats W 0 c).Φ t1_0.castSucc from rfl]; iexact HΦ
  isplitl [HO]
  · iexists w; isplitr; · ipureintro; exact fun _ _ => Or.inl trivial
    iexact HO
  isplitl [H0]
  · iexists _; isplitr; swap; (· iexact H0); ipureintro; dsimp only [dats]
  isplitl [H1]
  · iexists _; isplitr; swap; (· iexact H1); ipureintro; dsimp only [dats]
  · iexists g; isplitr; swap; (· iexact H2); ipureintro; exact hg

theorem stgA_eq (c : Dev nD) : stgA W c = W c (Proc.devRef .tc main_v3_0) := by
  funext y
  show W c (Proc.devRef .tc main_v3_0) _ = _
  congr 1
  funext a
  apply Fin.ext
  have h0 : ∀ a : Fin 2, win1_0.index t1_0 a = 0 := by decide +kernel
  blk_simp
  rw [h0 a, Nat.zero_mul, Nat.zero_add]

theorem stgB_eq (c : Dev nD) : stgB W c = W c (Proc.devRef .tc main_v3_1) := by
  funext y
  show W c (Proc.devRef .tc main_v3_1) _ = _
  congr 1
  funext a
  apply Fin.ext
  have h0 : ∀ a : Fin 2, win1_1.index t1_0 a = 0 := by decide +kernel
  blk_simp
  rw [h0 a, Nat.zero_mul, Nat.zero_add]

/-- What the region leaves in its result. -/
theorem region_value (c : Dev nD) :
    (dats W 0 c).arrAt 2 cfg1.N
      = (fun _ => loss (W c (Proc.devRef .tc main_v3_0)) (W c (Proc.devRef .tc main_v3_1)) : Vec F S1x1 .f32) := by
  rw [← stgA_eq W c, ← stgB_eq W c]
  refine (dats W 0 c).arrAt_eq_of_after_last 2 t1_0 (by decide +kernel) _ fun j => ?_
  rfl

/-! ## The region as one step of `@main` -/

/-- The buffers `@main` owns throughout. -/
def ucRefs : Finset (DevRef τ sig) := (StableHlo.tcRefs τ sig).filter fun b => ¬ b.isScoped

theorem unscopedBufs_held (c : Dev nD) (V : Valuation τ sig (Elt F)) :
    (unscopedBufs c (fun b => V b) : sProp 𝕄) = StableHlo.held (c : Thread nD τ) ucRefs V := by
  unfold unscopedBufs StableHlo.held ucRefs StableHlo.tcRefs
  rw [Finset.filter_map, bigSep_map]
  rfl

/-- The same without the flat table, which the tiles keep. -/
def tcHeld : Finset (DevRef τ sig) := ucRefs.erase (Proc.devRef .tc main_v2)

theorem arrRefs_sub : Pipeline.arrRefs spec1 ⊆ tcHeld := by decide

theorem level_cut : Pipeline.LevelCut (pcfgs (F := F)) adm none (K (F := F)).L (K (F := F)).lev 0 (fun _ : Dev nD => 0) (fun _ => 0) where
  hι _ _ _ := Finset.mem_univ _
  hιb _ _ _ := le_refl 0
  hD c g i h := absurd h (lt_irrefl 0)

def reg : RegionSeg (pcfgs (F := F)) adm (dats W) none defs₀ 𝒱₀ (K (F := F)).L (K (F := F)).lev 0 :=
  RegionSeg.ofHeldIn (pcfgs (F := F)) adm (dats W) none defs₀ 𝒱₀ (K (F := F)).L (K (F := F)).lev 0 (fun _ => 0) tcHeld
    (fun _ => iprop(emp)) (fun _ => iprop(emp)) launch1.toP rfl (fun c => (body_obligation W c).loose) (fun _ _ => rfl) (fun _ => rfl)
    (fun c w => (dats W 0 c).share_full (fun _ => rfl) w)
    (fun c => by rw [show (dats W 0 c).Φ 0 = iprop(emp) from rfl]; exact BI.Laws.sep_elim_right)
    (fun c => by
      show iprop(emp) ⊢ iprop(Pipeline.scopedRest spec1 c ∗ emp)
      rw [scopedRest1_eq]; iintro -; isplitl <;> iempintro)
    (fun _ => 0) level_cut (fun _ => iprop(emp)) W (fun _ _ => rfl)

/-- What the buffers hold after the region. -/
abbrev Wend (c : Dev nD) : Valuation τ sig (Elt F) := Pipeline.afterRegion (dats W 0 c) (W c)

theorem Wend_v4 (c : Dev nD) : Wend W c (Proc.devRef .tc main_v4)
    = (fun _ => loss (W c (Proc.devRef .tc main_v3_0)) (W c (Proc.devRef .tc main_v3_1)) : Vec F S1x1 .f32) :=
  (Pipeline.afterRegion_arr (dats W 0 c) (W c) launch1.win.arr_inj 2).trans (region_value W c)

theorem Wend_keeps (c : Dev nD) (r : Ref sig .tc) (h : r ≠ main_v4) : Wend W c (Proc.devRef .tc r) = W c (Proc.devRef .tc r) :=
  Pipeline.afterRegion_keeps (dats W 0 c) (W c) launch1.win.arr_inj (fun _ => rfl) r fun w hw => by
    subst hw
    match w with
    | ⟨0, _⟩ => rfl
    | ⟨1, _⟩ => rfl
    | ⟨2, _⟩ => exact absurd rfl h

theorem reg_pre (c : Dev nD) :
    iprop(StableHlo.held (c : Thread nD τ) tcHeld (W c) ∗ ((∃ Wd, owes (c : Thread nD τ) 0 Wd) ∗ emp ∗ emp)) ⊢ (reg W).pre c := by
  exact RegionSeg.ofHeldIn_pre (pcs := pcfgs (F := F)) (a := adm) (pdats := dats W) (ι := none) (defs₀ := defs₀) (𝒱₀ := 𝒱₀)
    (L := (K (F := F)).L) (lv := (K (F := F)).lev) (p := 0) (D := fun _ => 0) (W := W)
    (X := fun _ => iprop(emp)) (Y := fun _ => iprop(emp)) (R := fun _ => iprop(emp)) arrRefs_sub c

theorem reg_post (c : Dev nD) :
    (reg W).post c ⊢ iprop(StableHlo.held (c : Thread nD τ) tcHeld (Wend W c) ∗ ((∃ Wd, owes (c : Thread nD τ) 0 Wd) ∗ emp ∗ emp)) := by
  exact RegionSeg.ofHeldIn_post (pcs := pcfgs (F := F)) (a := adm) (pdats := dats W) (ι := none) (defs₀ := defs₀) (𝒱₀ := 𝒱₀)
    (L := (K (F := F)).L) (lv := (K (F := F)).lev) (p := 0) (D := fun _ => 0) (W := W)
    (X := fun _ => iprop(emp)) (Y := fun _ => iprop(emp)) (R := fun _ => iprop(emp)) arrRefs_sub c

/-- The pipeline's ghost state on device `c`, as the launch deals it. -/
abbrev pipeGhost (c : Dev nD) : sProp 𝕄 :=
  iprop(Pipeline.cellsGhost (Pipeline.pin (pcfgs (F := F)) adm) EP 0 c ∗ Pipeline.toksInit (Pipeline.pin (pcfgs (F := F)) adm) EP 0 c)

theorem wp_region (c : Dev nD) :
    iprop(boundary (c : Thread nD τ) ∗ StableHlo.held (c : Thread nD τ) tcHeld (W c) ∗ (∃ Wd, owes (c : Thread nD τ) 0 Wd)
      ∗ levAts (K (F := F)).L (K (F := F)).lev ∗ pipeGhost c)
    ⊢ wp frame (wpE ((K (F := F)).defs D) 𝒱 (c : Thread nD τ) none) Set.univ
        (Prog.lift (.customCall (SparseCore.inner (Pipeline.entry (0 : Fin 1))) ()))
        (fun _ => iprop(boundary (c : Thread nD τ) ∗ StableHlo.held (c : Thread nD τ) tcHeld (Wend W c) ∗ ∃ Wd, owes (c : Thread nD τ) 0 Wd)) := by
  refine BI.Entails.trans ?_ ((K (F := F)).wp_liftProg D 𝒱 (c : Thread nD τ) Set.univ none
    (Prog.lift (.customCall (Pipeline.entry (0 : Fin 1)) ())) _)
  refine BI.Entails.trans ?_ (RegionSeg.wp (pcfgs (F := F)) adm (dats W) none cellOf_inj EP defs₀ 𝒱₀ (K (F := F)).L (K (F := F)).lev
    (reg W) c none (fun _ h => absurd h (by simp)) (fun x => .ret x) _)
  show _ ⊢ iprop((iprop(boundary (c : Thread nD τ) ∗ (reg W).post c)
        -∗ wp frame (wpE (Pipeline.defs pcfgs (defs₀ (F := F))) 𝒱 (c : Thread nD τ) none) Set.univ (.ret ⟨⟩)
          (fun _ : PUnit => iprop(boundary (c : Thread nD τ) ∗ StableHlo.held (c : Thread nD τ) tcHeld (Wend W c) ∗ ∃ Wd, owes (c : Thread nD τ) 0 Wd)))
      ∗ boundary (c : Thread nD τ) ∗ (reg W).pre c ∗ levAts (K (F := F)).L (K (F := F)).lev ∗ pipeGhost c)
  iintro ⟨Hb, Hh, HO, Hl, Hg, Ht⟩
  isplitr [Hb Hh HO Hl Hg Ht]
  · iintro ⟨Hb, Hp⟩
    rw [wp_ret]; imodintro
    ihave H := (reg_post W c) $$ Hp
    icases H with ⟨Hh, HO, -, -⟩
    isplitl [Hb]; · iexact Hb
    isplitl [Hh]; · iexact Hh
    iexact HO
  isplitl [Hb]; · iexact Hb
  isplitl [Hh HO]
  · iapply (reg_pre W c)
    isplitl [Hh]; · iexact Hh
    isplitl [HO]; · iexact HO
    isplitl <;> iempintro
  isplitl [Hl]; · iexact Hl
  isplitl [Hg] <;> iassumption

end Cert.Proof.Task

end
-- ==== Proof.Deal.lean ====
/-
  The launch's arrays dealt among the tiles: each tile's slice of the words and its rows of the two results, cut out of
  the whole arrays and put together again, and a pair of read shares of the flat table.
-/
module

public import proofs.«01_k».proof.Proof.Region
public import Idealize.ShloMosaic.Lib.ValueLayout

@[expose] public section

set_option maxRecDepth 16384

noncomputable section

namespace Cert.Proof.Task

open Cert.KernelIdeal Cert.KernelIdeal.Gen Cert.Proof.Model

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tiles, numbered -/

abbrev coordsV (c : Fin (grid0.bound 0)) (s : Fin (grid0.bound 1)) : grid0.Coords :=
  fun | 0 => c | 1 => s | ⟨_ + 2, h⟩ => absurd h (Nat.not_lt.2 (Nat.le_add_left _ _))

/-- The tile's number, below 32. -/
abbrev tileOf (i : grid0.Coords) : Fin 32 := ⟨wid i, wid_lt i⟩

/-- A product over the 32 tiles, SparseCore by SparseCore. -/
theorem by_core (Φ : Fin 32 → sProp 𝕄) :
    bigSep Finset.univ Φ
      = bigSep Finset.univ fun c : Fin (grid0.bound 0) => bigSep Finset.univ fun s : Fin (grid0.bound 1) => Φ (tileOf (coordsV c s)) := by
  have e : ∀ (c : Fin 2) (s : Fin 16), ((Equiv.prodComm (Fin 2) (Fin 16)).trans finProdFinEquiv) (c, s) = tileOf (coordsV c s) := by
    decide +kernel
  rw [bigSep_univ_equiv ((Equiv.prodComm (Fin 2) (Fin 16)).trans finProdFinEquiv) Φ, bigSep_univ_prod]
  exact bigSep_congr fun c _ => bigSep_congr fun s _ => congrArg Φ (e c s)

/-! ## A memref held at known contents, as a points-to -/

theorem known_of_pts {thr : Thread nD τ} {sp : Space} {s : Shape} {e : EltTy} (r : Memref sig thr.2.kind sp s e) {g : Buf (Elt F) (r.view.loc thr)}
    {G : s.Idx → Elt F e} (h : ∀ y, r.view.read (Elt F) g y = G y) :
    (r.view.loc thr ↦[r.view.set]{fullShare} g : sProp 𝕄) ⊢ Known thr r G := by
  unfold Known
  iintro H
  iexists g; isplitr
  · ipureintro; exact h
  · iexact H

theorem any_of_pts {thr : Thread nD τ} {sp : Space} {s : Shape} {e : EltTy} (r : Memref sig thr.2.kind sp s e) {g : Buf (Elt F) (r.view.loc thr)} :
    (r.view.loc thr ↦[r.view.set]{fullShare} g : sProp 𝕄) ⊢ Any (F := F) thr r := by
  unfold Any
  iintro H
  iexists g; iexact H

theorem pts_of_known {thr : Thread nD τ} {sp : Space} {s : Shape} {e : EltTy} (r : Memref sig thr.2.kind sp s e) {g : Buf (Elt F) (r.view.loc thr)}
    {G : s.Idx → Elt F e} (h : ∀ y, r.view.read (Elt F) g y = G y) :
    Known thr r G ⊢ (r.view.loc thr ↦[r.view.set]{fullShare} g : sProp 𝕄) := by
  unfold Known
  iintro ⟨%f, %hf, H⟩
  iapply (Entails.of_eq (pointsTo_congr (f := f) (g := g) fun i hi => by
    obtain ⟨y, rfl⟩ := View.exists_emb_of_mem_set r.view hi
    have e := (hf y).trans (h y).symm
    rw [View.read_apply, View.read_apply] at e
    exact (cast_inj _).mp e))
  iexact H

/-! ## The three cut arrays -/

abbrev asgRow (k : Fin 32) : Rect S1048576 := Rect.part (s := S1048576) (a₀ := 0) (n := 32) ⟨32768, rfl⟩ k
abbrev sumRow (k : Fin 32) : Rect S32x16 := Rect.part (s := S32x16) (a₀ := 0) (n := 32) ⟨1, rfl⟩ k
abbrev cntRow (k : Fin 32) : Rect S32x64 := Rect.part (s := S32x64) (a₀ := 0) (n := 32) ⟨1, rfl⟩ k

variable (i : grid0.Coords)

theorem asg_rect : Rect.unit (s := S1048576) (k0_off1 i) S32768.size (k0_off1_inb i) = asgRow (tileOf i) := by
  unfold asgRow Rect.part Rect.block
  congr 1 <;> funext a
  · rw [k0_off1_eq]
    match a with
    | 0 => simp [Shape.partIx, Shape.partSize, wid]; omega
  · match a with
    | 0 => simp [Shape.partSize]

theorem sum_rect : Rect.unit (s := S32x16) (k0_off138 i) S1x16.size (k0_off138_inb i) = sumRow (tileOf i) := by
  unfold sumRow Rect.part Rect.block
  congr 1 <;> funext a
  · rw [k0_off138_eq]
    match a with
    | 0 => simp [Shape.partIx, Shape.partSize, wid]
    | 1 => simp [Shape.partIx, Shape.partSize]
  · match a with
    | 0 => simp [Shape.partSize]
    | 1 => simp [Shape.partSize]

theorem cnt_rect : Rect.unit (s := S32x64) (k0_off139 i) S1x64.size (k0_off139_inb i) = cntRow (tileOf i) := by
  unfold cntRow Rect.part Rect.block
  congr 1 <;> funext a
  · rw [k0_off139_eq]
    match a with
    | 0 => simp [Shape.partIx, Shape.partSize, wid]
    | 1 => simp [Shape.partIx, Shape.partSize]
  · match a with
    | 0 => simp [Shape.partSize]
    | 1 => simp [Shape.partSize]

theorem asg_set : (asgI i).view.set = (asgRow (tileOf i)).set :=
  (View.set_slice_whole main_arg1_scv _).trans (by rw [asg_rect])
theorem sum_set : (sumI i).view.set = (sumRow (tileOf i)).set :=
  (View.set_reshape _ _).trans ((View.set_slice_whole main_v3_0_scv _).trans (by rw [sum_rect]))
theorem cnt_set : (cntI i).view.set = (cntRow (tileOf i)).set :=
  (View.set_reshape _ _).trans ((View.set_slice_whole main_v3_1_scv _).trans (by rw [cnt_rect]))

/-- A whole array is its 32 parts. -/
theorem cut {ℓ : Loc nD τ sig} {n : ℕ} {a₀ : Fin (ℓ.2.ty.shape).rank} (hn : n ∣ (ℓ.2.ty.shape).size a₀) (f : Buf (Elt F) ℓ) :
    (ℓ ↦{fullShare} f : sProp 𝕄) = bigSep Finset.univ fun k : Fin n => ℓ ↦[(Rect.part hn k).set]{fullShare} f := by
  rw [← pointsTo_biUnion Finset.univ (ℓ := ℓ) (fun k => (Rect.part hn k).set) fun k _ k' _ h => Rect.part_disjoint hn h, Rect.biUnion_part hn]

/-! ## What each tile reads in its slice -/

/-- Place `n` of an array of words or of the flat table. -/
abbrev at1M (n : ℕ) : S1048576.Idx := fun a => ⟨n % 1048576, by obtain rfl := Fin.eq_zero a; exact Nat.mod_lt _ (by decide)⟩
abbrev at64M (n : ℕ) : S67108864.Idx := fun a => ⟨n % 67108864, by obtain rfl := Fin.eq_zero a; exact Nat.mod_lt _ (by decide)⟩

/-- The words of tile `w`. -/
abbrev wordsOf (A : Vec F S1048576 .i32) (w : ℕ) : ℕ → BitVec 32 := fun p => A (at1M (32768 * w + p))
/-- The flat table by place. -/
abbrev tabOf (X : Vec F S67108864 .f32) : ℕ → F .f32 := fun n => X (at64M n)

/-- The table of the tiles' partial sums, and that of their counts. -/
def sumsAll (A : Vec F S1048576 .i32) (X : Vec F S67108864 .f32) : Vec F S32x16 .f32 :=
  fun y => sums (y 0).val (wordsOf (F := F) A (y 0).val) (tabOf X) (atLane (y 1).val)
def cntsAll (A : Vec F S1048576 .i32) : Vec F S32x64 .f32 :=
  fun y => counts (wordsOf (F := F) A (y 0).val) (y 1).val

theorem read_asg (A : Vec F S1048576 .i32) (y : S32768.Idx) :
    (asgI i).view.read (Elt F) A y = wordsOf (F := F) A (wid i) (y 0).val := by
  show A ((Rect.unit (s := S1048576) (k0_off1 i) S32768.size (k0_off1_inb i)).emb y) = _
  refine congrArg A (funext fun a => Fin.ext ?_)
  obtain rfl := Fin.eq_zero a
  have hy : (y 0).val < 32768 := (y 0).isLt
  have hw := wid_lt i
  show k0_off1 i 0 + 1 * (y 0).val = (32768 * wid i + (y 0).val) % 1048576
  rw [k0_off1_eq]
  unfold wid at *
  simp only [Matrix.cons_val_zero]
  generalize (i 0).val = c at *; generalize (i 1).val = s at *; generalize (y 0).val = t at *
  omega

theorem read_sum (G : Vec F S32x16 .f32) (y : S16.Idx) :
    (sumI i).view.read (Elt F) G y = G (ix2 (tileOf i) (y 0)) := by
  obtain ⟨k, rfl⟩ : ∃ k : Fin 16, y = ix1 k := ⟨y 0, funext fun a => by obtain rfl := Fin.eq_zero a; rfl⟩
  refine (congrFun (Memref.read_squeeze_slice sumV _ _ _ squeezes_S1x16_S16.numel_eq.symm G) _).trans ?_
  refine (shapeCast_1a_a_apply _ _ k).trans ?_
  show G ((Rect.unit (s := S32x16) (k0_off138 i) S1x16.size (k0_off138_inb i)).emb (ix2 0 k)) = _
  refine congrArg G (funext fun a => Fin.ext ?_)
  show k0_off138 i a + 1 * (ix2 (0 : Fin 1) k a).val = _
  rw [k0_off138_eq]
  match a with
  | 0 => simp [wid]
  | 1 => simp

theorem read_cnt (G : Vec F S32x64 .f32) (y : S64.Idx) :
    (cntI i).view.read (Elt F) G y = G (ix2 (tileOf i) (y 0)) := by
  obtain ⟨k, rfl⟩ : ∃ k : Fin 64, y = ix1 k := ⟨y 0, funext fun a => by obtain rfl := Fin.eq_zero a; rfl⟩
  refine (congrFun (Memref.read_squeeze_slice cntV _ _ _ squeezes_S1x64_S64.numel_eq.symm G) _).trans ?_
  refine (shapeCast_1a_a_apply _ _ k).trans ?_
  show G ((Rect.unit (s := S32x64) (k0_off139 i) S1x64.size (k0_off139_inb i)).emb (ix2 0 k)) = _
  refine congrArg G (funext fun a => Fin.ext ?_)
  show k0_off139 i a + 1 * (ix2 (0 : Fin 1) k a).val = _
  rw [k0_off139_eq]
  match a with
  | 0 => simp [wid]
  | 1 => simp

theorem flat_emb (y : S67108864.Idx) :
    (Rect.unit (s := S67108864) ![0] S67108864.size inb_S67108864_S67108864_0).emb y = y := by
  funext a
  obtain rfl := Fin.eq_zero a
  refine Fin.ext ?_
  show 0 + 1 * (y 0).val = (y 0).val
  omega

theorem flat_set : (flat tabV).view.set = Finset.univ := by
  refine (View.set_slice_whole main_v2_scv _).trans (Finset.eq_univ_iff_forall.mpr fun y => ?_)
  rw [← Rect.map_emb_univ]
  exact Finset.mem_map.mpr ⟨y, Finset.mem_univ _, flat_emb y⟩

theorem flat_read (X : Vec F S67108864 .f32) (y : S67108864.Idx) : (flat tabV).view.read (Elt F) X y = tabOf X (y 0).val := by
  refine (congrArg X (flat_emb y)).trans (congrArg X (funext fun a => Fin.ext ?_))
  obtain rfl := Fin.eq_zero a
  exact (Nat.mod_eq_of_lt (y 0).isLt).symm

end Cert.Proof.Task

end
-- ==== Proof.Launch.lean ====
/-
  What the launch hands each tile and what it hands back, and the tile's program as the launch's obligation.
-/
module

public import proofs.«01_k».proof.Proof.Deal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.Proof.Task

open Cert.KernelIdeal Cert.KernelIdeal.Gen Cert.Proof.Model

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's scratch and semaphores among those it owns -/

section Own

variable (d : Dev nD) (i : grid0.Coords)

/-- The scratch buffers and the semaphores the program names. -/
def bufsT : Finset (Ref sig .scVector) :=
  {cc0_scratch0, cc0_scratch1, cc0_scratch6, cc0_scratch7, cc0_scratch2, cc0_scratch4, cc0_scratch3, cc0_scratch5}
def semsT : Finset (SemLoc sig) :=
  {SemLoc.dma cc0_scratch8.sem, SemLoc.dma cc0_scratch9.sem, SemLoc.dma cc0_scoped0.sem, SemLoc.dma cc0_scoped1.sem, SemLoc.dma cc0_scoped2.sem}

theorem semsT_scoped : ∀ s ∈ semsT, s.isScoped .scVector = true := by decide +kernel

def refsT : Finset (DevRef τ sig) := bufsT.map ⟨(tt d i).2.devRef, Proc.devRef_injective _⟩
def cellsT : Finset (GSem nD τ sig) := semsT.map ⟨fun s => (tt d i, s), fun _ _ h => (Prod.mk.inj h).2⟩

theorem refsT_sub : refsT d i ⊆ ownRefs (tt d i).2 := fun b hb => by
  obtain ⟨r, hr, rfl⟩ := Finset.mem_map.mp hb
  simp only [bufsT, Finset.mem_insert, Finset.mem_singleton] at hr
  rcases hr with rfl | rfl | rfl | rfl | rfl | rfl | rfl | rfl <;> exact SparseCore.Cfg.mem_ownRefs_of_owner rfl

theorem cellsT_sub : cellsT d i ⊆ ownCells (tt d i) := fun g hg => by
  obtain ⟨s, hs, rfl⟩ := Finset.mem_map.mp hg
  exact mem_ownCells.mpr ⟨rfl, semsT_scoped s hs⟩

/-- What the tile owns that its program never names. -/
def Rest : sProp 𝕄 :=
  iprop((bigSep (ownRefs (tt d i).2 \ refsT d i) fun b => iprop(∃ f, ((d, b) : Loc nD τ sig) ↦{fullShare} f))
    ∗ bigSep (ownCells (tt d i) \ cellsT d i) fun g => semVal g 0)

theorem any_whole (r : Ref sig .scVector) :
    (Any (F := F) (tt d i) (Memref.whole r) : sProp 𝕄) = iprop(∃ f, ((d, (tt d i).2.devRef r) : Loc nD τ sig) ↦{fullShare} f) := by
  unfold Any
  exact congrArg (fun S => iprop(∃ f, (Memref.whole r).view.loc (tt d i) ↦[S]{fullShare} f)) (View.set_whole r)

theorem own_bufs : (ownBufs (tt d i) : sProp 𝕄)
    = iprop((Any (F := F) (tt d i) aV ∗ Any (F := F) (tt d i) lV ∗ Any (F := F) (tt d i) hV ∗ Any (F := F) (tt d i) sV
        ∗ Any (F := F) (tt d i) xA ∗ Any (F := F) (tt d i) gA ∗ Any (F := F) (tt d i) xB ∗ Any (F := F) (tt d i) gB)
      ∗ bigSep (ownRefs (tt d i).2 \ refsT d i) fun b => iprop(∃ f, ((d, b) : Loc nD τ sig) ↦{fullShare} f)) := by
  unfold SparseCore.Cfg.ownBufs
  rw [bigSep_sdiff_split (refsT_sub d i)]
  have h : bigSep (refsT d i) (fun b => iprop(∃ f, ((d, b) : Loc nD τ sig) ↦{fullShare} f))
      = bigSep bufsT fun r => (Any (F := F) (tt d i) (Memref.whole r) : sProp 𝕄) :=
    (bigSep_map _).trans (bigSep_congr fun r _ => (any_whole d i r).symm)
  refine congrArg (fun Z : sProp 𝕄 => iprop(Z ∗ _)) (h.trans ?_)
  unfold bufsT
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem own_sems : (ownSems0 (tt d i) : sProp 𝕄)
    = iprop((semVal (tt d i, SemLoc.dma cc0_scratch8.sem) 0 ∗ semVal (tt d i, SemLoc.dma cc0_scratch9.sem) 0
        ∗ semVal (tt d i, SemLoc.dma cc0_scoped0.sem) 0 ∗ semVal (tt d i, SemLoc.dma cc0_scoped1.sem) 0 ∗ semVal (tt d i, SemLoc.dma cc0_scoped2.sem) 0)
      ∗ bigSep (ownCells (tt d i) \ cellsT d i) fun g => semVal g 0) := by
  unfold SparseCore.Cfg.ownSems0
  rw [bigSep_sdiff_split (cellsT_sub d i)]
  have h : bigSep (cellsT d i) (fun g => (semVal g 0 : sProp 𝕄)) = bigSep semsT fun s => semVal (tt d i, s) 0 := bigSep_map _
  refine congrArg (fun Z : sProp 𝕄 => iprop(Z ∗ _)) (h.trans ?_)
  unfold semsT
  rw [SparseCore.bigSep_insert' (by decide), SparseCore.bigSep_insert' (by decide), SparseCore.bigSep_insert' (by decide),
    SparseCore.bigSep_insert' (by decide), bigSep_singleton]

theorem own_in : iprop(ownBufs (tt d i) ∗ ownSems0 (tt d i)) ⊢ (iprop(Own (F := F) i d ∗ Rest d i) : sProp 𝕄) := by
  rw [own_bufs, own_sems]
  unfold Own Rest
  iintro ⟨⟨⟨Ha, Hl, Hh, Hs, HxA, HgA, HxB, HgB⟩, HR⟩, ⟨HvA, HvB, Hv0, Hv1, Hv2⟩, HQ⟩
  isplitr [HR HQ]
  · isplitl [Ha]; · iexact Ha
    isplitl [Hl]; · iexact Hl
    isplitl [Hh]; · iexact Hh
    isplitl [Hs]; · iexact Hs
    isplitl [HxA HgA HvA]
    · isplitl [HxA]; · iexact HxA
      isplitl [HgA] <;> iassumption
    isplitl [HxB HgB HvB]
    · isplitl [HxB]; · iexact HxB
      isplitl [HgB] <;> iassumption
    isplitl [Hv0]; · iexact Hv0
    isplitl [Hv1] <;> iassumption
  · isplitl [HR] <;> iassumption

theorem own_out : (iprop(Own (F := F) i d ∗ Rest d i) : sProp 𝕄) ⊢ iprop(ownBufs (tt d i) ∗ ownSems0 (tt d i)) := by
  rw [own_bufs, own_sems]
  unfold Own Rest
  iintro ⟨⟨Ha, Hl, Hh, Hs, ⟨HxA, HgA, HvA⟩, ⟨HxB, HgB, HvB⟩, Hv0, Hv1, Hv2⟩, HR, HQ⟩
  isplitr [HQ HvA HvB Hv0 Hv1 Hv2]
  · isplitr [HR]
    · isplitl [Ha]; · iexact Ha
      isplitl [Hl]; · iexact Hl
      isplitl [Hh]; · iexact Hh
      isplitl [Hs]; · iexact Hs
      isplitl [HxA]; · iexact HxA
      isplitl [HgA]; · iexact HgA
      isplitl [HxB] <;> iassumption
    · iexact HR
  · isplitr [HQ]
    · isplitl [HvA]; · iexact HvA
      isplitl [HvB]; · iexact HvB
      isplitl [Hv0]; · iexact Hv0
      isplitl [Hv1] <;> iassumption
    · iexact HQ

end Own

/-! ## The call's hand-over -/

variable (A : Dev nD → Vec F S1048576 .i32) (X : Dev nD → Vec F S67108864 .f32)

/-- Tile `k`'s two read shares of the flat table. -/
abbrev shA (k : ℕ) : PosShare TreeShare := (Transfers.shareTokN fullShare k).left
abbrev shB (k : ℕ) : PosShare TreeShare := (Transfers.shareTokN fullShare k).right

/-- What a tile receives, and what it hands back. -/
@[irreducible] def Go (d : Dev nD) (i : grid0.Coords) : sProp 𝕄 :=
  iprop(Known (F := F) (tt d i) (asgI i) (fun y => wordsOf (F := F) (A d) (wid i) (y 0).val) ∗ Tbl d i tabV (shA (wid i)) (tabOf (X d))
    ∗ Tbl d i tabV (shB (wid i)) (tabOf (X d)) ∗ Any (F := F) (tt d i) (sumI i) ∗ Any (F := F) (tt d i) (cntI i))
@[irreducible] def Back (d : Dev nD) (i : grid0.Coords) : sProp 𝕄 :=
  iprop(Known (F := F) (tt d i) (asgI i) (fun y => wordsOf (F := F) (A d) (wid i) (y 0).val)
    ∗ Known (F := F) (tt d i) (sumI i) (sums (wid i) (wordsOf (F := F) (A d) (wid i)) (tabOf (X d)))
    ∗ Known (F := F) (tt d i) (cntI i) (fun y => counts (wordsOf (F := F) (A d) (wid i)) (y 0).val))

instance any_storable {thr : Thread nD τ} {sp : Space} {s : Shape} {e : EltTy} (r : Memref sig thr.2.kind sp s e) :
    BI.Storable (upEmb : UEmb _ 𝕄) (Any (F := F) thr r) := by
  unfold Any; infer_instance
instance known_storable {thr : Thread nD τ} {sp : Space} {s : Shape} {e : EltTy} (r : Memref sig thr.2.kind sp s e) (G : s.Idx → Elt F e) :
    BI.Storable (upEmb : UEmb _ 𝕄) (Known (F := F) thr r G) := by
  unfold Known; infer_instance
instance tbl_storable (d : Dev nD) (i : grid0.Coords) (r : Memref sig .scVector .hbm S67108864 .f32) (q : PosShare TreeShare) (G : ℕ → F .f32) :
    BI.Storable (upEmb : UEmb _ 𝕄) (Tbl d i r q G) := by
  unfold Tbl; infer_instance
instance Go_storable (d : Dev nD) (i : grid0.Coords) : BI.Storable (upEmb : UEmb _ 𝕄) (Go A X d i) := by
  unfold Go; infer_instance
instance Back_storable (d : Dev nD) (i : grid0.Coords) : BI.Storable (upEmb : UEmb _ 𝕄) (Back A X d i) := by
  unfold Back; infer_instance

/-- The coordinates of task `s` on SparseCore `c`. -/
abbrev at0 (c : Fin ((K (F := F)).nCore 0)) (s : Fin ((K (F := F)).nSub 0)) : grid0.Coords := coordsV ⟨c.val, c.isLt⟩ ⟨s.val, s.isLt⟩

def P : (K (F := F)).Pay (nD := nD) (Val := Elt F) (Name := ℕ) (U := UU) where
  st := fun q d c => match q with
    | 0 => bigSep Finset.univ fun s => Go A X d (at0 (F := F) c s)
  dn := fun q d c => match q with
    | 0 => bigSep Finset.univ fun s => Back A X d (at0 (F := F) c s)
  go := fun q d c s => match q with
    | 0 => Go A X d (at0 (F := F) c s)
  td := fun q d c s => match q with
    | 0 => Back A X d (at0 (F := F) c s)
  x := fun _ _ => iprop(emp)

instance P_storable : (P A X).IsStorable where
  st q d c := match q with
    | 0 => (inferInstance : BI.Storable (upEmb : UEmb _ 𝕄) (bigSep Finset.univ fun s => Go A X d (at0 (F := F) c s)))
  dn q d c := match q with
    | 0 => (inferInstance : BI.Storable (upEmb : UEmb _ 𝕄) (bigSep Finset.univ fun s => Back A X d (at0 (F := F) c s)))
  go q d c s := match q with
    | 0 => (inferInstance : BI.Storable (upEmb : UEmb _ 𝕄) (Go A X d (at0 (F := F) c s)))
  td q d c s := match q with
    | 0 => (inferInstance : BI.Storable (upEmb : UEmb _ 𝕄) (Back A X d (at0 (F := F) c s)))

theorem vecSplit : (K (F := F)).VecSplit' (P A X) 0 := by
  intro d c
  show (bigSep Finset.univ fun s => Go A X d (at0 (F := F) c s)) ⊢ |={Set.univ}=> iprop((bigSep Finset.univ fun s => Go A X d (at0 (F := F) c s))
    ∗ ((bigSep Finset.univ fun s => Back A X d (at0 (F := F) c s)) -∗ bigSep Finset.univ fun s => Back A X d (at0 (F := F) c s)))
  iintro H; imodintro
  isplitl [H]; · iexact H
  iintro H; iexact H

/-- Every word names one of the 64 columns. -/
def InRange : Prop := ∀ (d : Dev nD) (j : S1048576.Idx), (A d j).toNat < 64

theorem back_of (d : Dev nD) (i : grid0.Coords) {O : CellTallies nD τ sig (HIx 1)} {W : Waits sig (HIx 1)} :
    iprop((Known (F := F) (tt d i) (asgI i) (fun y => wordsOf (F := F) (A d) (wid i) (y 0).val) ∗ Tbl d i tabV (shA (wid i)) (tabOf (X d))
        ∗ Tbl d i tabV (shB (wid i)) (tabOf (X d)) ∗ Known (F := F) (tt d i) (sumI i) (sums (wid i) (wordsOf (F := F) (A d) (wid i)) (tabOf (X d)))
        ∗ Known (F := F) (tt d i) (cntI i) (fun y => counts (wordsOf (F := F) (A d) (wid i)) (y 0).val) ∗ Own (F := F) i d ∗ Owing (F := F) (tt d i) O W) ∗ Rest d i)
      ⊢ (iprop(Back A X d i ∗ ownBufs (tt d i) ∗ ownSems0 (tt d i) ∗ ∃ W', ⌜∀ p ∈ W', p ∈ W ∨ p.2 = none ∨ p.2 = some (0 : Fin 1)⌝ ∗ owes (tt d i) O W') : sProp 𝕄) := by
  unfold Back Owing
  iintro ⟨⟨Hi, -, -, Hs, Hc, Hown, -, %W', %hW, HO⟩, HR⟩
  ihave Hown := (own_out (F := F) d i) $$ [Hown HR]
  · isplitl [Hown] <;> iassumption
  icases Hown with ⟨Hb, Hv⟩
  isplitl [Hi Hs Hc]
  · isplitl [Hi]; · iexact Hi
    isplitl [Hs] <;> iassumption
  isplitl [Hb]; · iexact Hb
  isplitl [Hv]; · iexact Hv
  iexists W'; isplitr
  · ipureintro; exact fun p hp => (hW p hp).imp_right Or.inl
  · iexact HO

/-- The tile's program between what the launch hands it and what it hands back. -/
theorem tile_body (hA : InRange A) (d : Dev nD) (i : grid0.Coords) (O : CellTallies nD τ sig (HIx 1)) (W : Waits sig (HIx 1)) (hO : ∀ g, O g none = 0) :
    iprop(levAts (K (F := F)).L (K (F := F)).lev ∗ emp ∗ Go A X d i ∗ scopedBufs (tt d i) ∗ scopedSems0 (tt d i) ∗ owes (tt d i) O W)
      ⊢ wp frame (wpE (defs₀ (F := F)) 𝒱₀ (tt d i) none) Set.univ
          (cc0__sc_body i tabV (Memref.isWhole_whole _) asgV (Memref.isWhole_whole _) sumV (Memref.isWhole_whole _) cntV (Memref.isWhole_whole _)
            aV (Memref.isWhole_whole _) lV (Memref.isWhole_whole _) xA (Memref.isWhole_whole _) xB (Memref.isWhole_whole _) gA (Memref.isWhole_whole _)
            gB (Memref.isWhole_whole _) hV (Memref.isWhole_whole _) sV (Memref.isWhole_whole _) cc0_scratch8 cc0_scratch9 cc0_scoped0 cc0_scoped1 cc0_scoped2)
          fun _ => iprop(Back A X d i ∗ scopedBufs (tt d i) ∗ scopedSems0 (tt d i) ∗ ∃ W', ⌜∀ p ∈ W', p ∈ W ∨ p.2 = none ∨ p.2 = some (0 : Fin 1)⌝ ∗ owes (tt d i) O W') := by
  rw [(K (F := F)).scopedBufs_V facts d _ _, SparseCore.Cfg.scopedSems0_V (Val := Elt F) d _ _]
  iintro ⟨Hlv, -, HG, Hbufs, Hsems, HO⟩
  ihave Hown := (own_in (F := F) d i) $$ [Hbufs Hsems]
  · isplitl [Hbufs] <;> iassumption
  icases Hown with ⟨Hown, HR⟩
  unfold Go
  icases HG with ⟨Hi, HTA, HTB, Hs, Hc⟩
  ihave Hwp := (tile i d (a := wordsOf (F := F) (A d) (wid i)) (fun p _ => hA d _) (tabOf (X d)) (shA (wid i)) (shB (wid i)) (W := W) hO) $$ [Hlv Hi HTA HTB Hs Hc Hown HO]
  · isplitl [Hi]; · iexact Hi
    isplitl [HTA]; · iexact HTA
    isplitl [HTB]; · iexact HTB
    isplitl [Hs]; · iexact Hs
    isplitl [Hc]; · iexact Hc
    isplitl [Hown]; · iexact Hown
    unfold Owing
    isplitl [Hlv]; · iexact Hlv
    iexists W; isplitr
    · ipureintro; exact fun p hp => Or.inl hp
    · iexact HO
  iapply (wp_mono frame _ _ fun _ => back_of A X d i) $$ [Hwp HR]
  iapply (wp_frame_r frame _ _) $$ [Hwp HR]
  isplitl [Hwp] <;> iassumption

theorem defs₀_vector (c : Fin τ.nSC) (s : Fin τ.nSub) :
    defs₀ (F := F) (.scVector c s) 0 ()
      = SparseCore.onTile hcore0 hsub0 (fun c s => cc0__sc_body (coordsV c s) tabV (Memref.isWhole_whole _) asgV (Memref.isWhole_whole _)
          sumV (Memref.isWhole_whole _) cntV (Memref.isWhole_whole _) aV (Memref.isWhole_whole _) lV (Memref.isWhole_whole _) xA (Memref.isWhole_whole _)
          xB (Memref.isWhole_whole _) gA (Memref.isWhole_whole _) gB (Memref.isWhole_whole _) hV (Memref.isWhole_whole _) sV (Memref.isWhole_whole _)
          cc0_scratch8 cc0_scratch9 cc0_scoped0 cc0_scoped1 cc0_scoped2) ⟨⟩ c s := rfl

theorem tileObl (hA : InRange A) : (K (F := F)).TileObl (D (F := F)) 𝒱 (P A X) v₀ 0 := by
  intro d c s O W hO _ _
  simp only [show (P A X).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A X hA d (coordsV ⟨_, hci.1⟩ ⟨_, hci.2⟩) O W hO

end Cert.Proof.Task

end
-- ==== Proof.Whole.lean ====
/-
  The whole program: the host's layout of the distances, the tiles, the final step. Its one result is stated as a
  function of the two arguments, over any float values.
-/
module

public import proofs.«01_k».proof.Proof.Launch

@[expose] public section

set_option maxRecDepth 16384

noncomputable section

namespace Cert.Proof.Task

open Cert.KernelIdeal Cert.KernelIdeal.Gen Cert.Proof.Model

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The arrays dealt and gathered -/

section Deal

variable (d : Dev nD)

abbrev aLoc : Loc nD τ sig := (SparseCore.T d).loc main_arg1
abbrev tLoc : Loc nD τ sig := (SparseCore.T d).loc main_v2
abbrev sLoc : Loc nD τ sig := (SparseCore.T d).loc main_v3_0
abbrev nLoc : Loc nD τ sig := (SparseCore.T d).loc main_v3_1

variable (A : Dev nD → Vec F S1048576 .i32) (X : Dev nD → Vec F S67108864 .f32)

theorem cutA (f : Vec F S1048576 .i32) : (aLoc d ↦{fullShare} f : sProp 𝕄) = bigSep Finset.univ fun k : Fin 32 => aLoc d ↦[(asgRow k).set]{fullShare} f :=
  cut (ℓ := aLoc d) (a₀ := (0 : Fin 1)) (n := 32) ⟨32768, rfl⟩ f
theorem cutS (f : Vec F S32x16 .f32) : (sLoc d ↦{fullShare} f : sProp 𝕄) = bigSep Finset.univ fun k : Fin 32 => sLoc d ↦[(sumRow k).set]{fullShare} f :=
  cut (ℓ := sLoc d) (a₀ := (0 : Fin 2)) (n := 32) ⟨1, rfl⟩ f
theorem cutN (f : Vec F S32x64 .f32) : (nLoc d ↦{fullShare} f : sProp 𝕄) = bigSep Finset.univ fun k : Fin 32 => nLoc d ↦[(cntRow k).set]{fullShare} f :=
  cut (ℓ := nLoc d) (a₀ := (0 : Fin 2)) (n := 32) ⟨1, rfl⟩ f

/-- Tile `k`'s part of the four arrays. -/
def Part (s : Vec F S32x16 .f32) (n : Vec F S32x64 .f32) (k : Fin 32) : sProp 𝕄 :=
  iprop((aLoc d ↦[(asgRow k).set]{fullShare} A d) ∗ (tLoc d ↦{Transfers.shareTokN fullShare k.val} X d)
    ∗ (sLoc d ↦[(sumRow k).set]{fullShare} s) ∗ (nLoc d ↦[(cntRow k).set]{fullShare} n))

theorem parts (s : Vec F S32x16 .f32) (n : Vec F S32x64 .f32) :
    iprop((aLoc d ↦{fullShare} A d) ∗ (tLoc d ↦{fullShare} X d) ∗ (sLoc d ↦{fullShare} s) ∗ (nLoc d ↦{fullShare} n))
      ⊢ (bigSep Finset.univ fun k : Fin 32 => Part d A X s n k : sProp 𝕄) := by
  unfold Part
  rw [bigSep_sep', bigSep_sep', bigSep_sep', ← cutA, ← cutS, ← cutN]
  iintro ⟨Ha, Ht, Hs, Hn⟩
  ihave Ht := (Transfers.pointsTo_toks_split (ℓ := tLoc d) (S := Finset.univ) (f := X d) fullShare 32) $$ Ht
  icases Ht with ⟨-, Ht⟩
  isplitl [Ha]; · iexact Ha
  isplitl [Ht]; · iexact Ht
  isplitl [Hs] <;> iassumption

theorem go_of_part (i : grid0.Coords) (s : Vec F S32x16 .f32) (n : Vec F S32x64 .f32) :
    (Part d A X s n (tileOf i) : sProp 𝕄) ⊢ Go A X d i := by
  unfold Part Go Tbl
  iintro ⟨Ha, Ht, Hs, Hn⟩
  ihave Ht := (pointsTo_share (ℓ := tLoc d) (I := Finset.univ) (f := X d) (PosShare.mem_left_op_right (Transfers.shareTokN fullShare (wid i)))).1 $$ Ht
  icases Ht with ⟨HtA, HtB⟩
  isplitl [Ha]
  · iapply (known_of_pts (thr := tt d i) (asgI i) (g := A d) fun y => read_asg i (A d) y)
    rw [asg_set]; iexact Ha
  isplitl [HtA]
  · iexists X d; isplitr
    · ipureintro; exact flat_read (X d)
    · rw [flat_set]; iexact HtA
  isplitl [HtB]
  · iexists X d; isplitr
    · ipureintro; exact flat_read (X d)
    · rw [flat_set]; iexact HtB
  isplitl [Hs]
  · iapply (any_of_pts (thr := tt d i) (sumI i) (g := s))
    rw [sum_set]; iexact Hs
  · iapply (any_of_pts (thr := tt d i) (cntI i) (g := n))
    rw [cnt_set]; iexact Hn

theorem piece_of_back (i : grid0.Coords) :
    (Back A X d i : sProp 𝕄) ⊢ iprop((aLoc d ↦[(asgRow (tileOf i)).set]{fullShare} A d)
      ∗ (sLoc d ↦[(sumRow (tileOf i)).set]{fullShare} sumsAll (A d) (X d)) ∗ (nLoc d ↦[(cntRow (tileOf i)).set]{fullShare} cntsAll (F := F) (A d))) := by
  unfold Back
  rw [← asg_set, ← sum_set, ← cnt_set]
  iintro ⟨Ha, Hs, Hn⟩
  isplitl [Ha]
  · iapply (pts_of_known (thr := tt d i) (asgI i) (g := A d) fun y => read_asg i (A d) y)
    iexact Ha
  isplitl [Hs]
  · iapply (pts_of_known (thr := tt d i) (sumI i) (g := sumsAll (A d) (X d)) fun y =>
      (read_sum i (sumsAll (A d) (X d)) y).trans (congrArg (sums (wid i) (wordsOf (F := F) (A d) (wid i)) (tabOf (X d))) (atLane_val y)))
    iexact Hs
  · iapply (pts_of_known (thr := tt d i) (cntI i) (g := cntsAll (F := F) (A d)) fun y => read_cnt i (cntsAll (F := F) (A d)) y)
    iexact Hn

theorem st_all (s : Vec F S32x16 .f32) (n : Vec F S32x64 .f32) :
    iprop((aLoc d ↦{fullShare} A d) ∗ (tLoc d ↦{fullShare} X d) ∗ (sLoc d ↦{fullShare} s) ∗ (nLoc d ↦{fullShare} n))
      ⊢ (bigSep Finset.univ fun c : Fin ((K (F := F)).nCore 0) => (P A X).st 0 d c : sProp 𝕄) := by
  refine (parts d A X s n).trans ?_
  rw [by_core]
  exact bigSep_mono fun c _ => bigSep_mono fun t _ => go_of_part d A X (coordsV c t) s n

theorem all_dn :
    (bigSep Finset.univ fun c : Fin ((K (F := F)).nCore 0) => (P A X).dn 0 d c : sProp 𝕄)
      ⊢ iprop((aLoc d ↦{fullShare} A d) ∗ (sLoc d ↦{fullShare} sumsAll (A d) (X d)) ∗ (nLoc d ↦{fullShare} cntsAll (F := F) (A d))) := by
  rw [cutA, cutS, cutN, ← bigSep_sep', ← bigSep_sep', by_core]
  show (bigSep Finset.univ fun c : Fin (grid0.bound 0) => bigSep Finset.univ fun t : Fin (grid0.bound 1) => Back A X d (coordsV c t)) ⊢ _
  exact bigSep_mono fun c _ => bigSep_mono fun t _ => piece_of_back d A X (coordsV c t)

end Deal

/-! ## The contents of the buffers, step by step -/

section Contents

variable (m : (ℓ : Loc nD τ sig) → Buf (Elt F) ℓ)

abbrev op0 : HloOp τ sig (Elt F) := StableHlo.reshape main_arg0 main_v0 (rfl : (.f32 : EltTy) = .f32) shapeCasts_S1048576x64_S8192x128x8x8
abbrev op1 : HloOp τ sig (Elt F) := StableHlo.unary main_v0 main_v1
  ((transpose S8x8192x8x128 [2, 0, 3, 1] · transposes_S8192x128x8x8_S8x8192x8x128_2_0_3_1) : (⟨S8192x128x8x8, .f32⟩ : BufTy).Contents (Elt F) → (⟨S8x8192x8x128, .f32⟩ : BufTy).Contents (Elt F))
abbrev op2 : HloOp τ sig (Elt F) := StableHlo.reshape main_v1 main_v2 (rfl : (.f32 : EltTy) = .f32) shapeCasts_S8x8192x8x128_S67108864
abbrev op5 : HloOp τ sig (Elt F) := StableHlo.reshape main_v4 main_v5 (rfl : (.f32 : EltTy) = .f32) shapeCasts_S1x1_S_

/-- At the start; after the host's layout; after the tiles; after the final step; at the end. -/
def V0 (d : Dev nD) : Valuation τ sig (Elt F) := fun b => m (d, b)
def V1 (d : Dev nD) : Valuation τ sig (Elt F) := op2.result (op1.result (op0.result (V0 m d)))

/-- The words and the flat table, as the tiles read them. -/
abbrev words (d : Dev nD) : Vec F S1048576 .i32 := V1 m d (Proc.devRef .tc main_arg1)
abbrev flatX (d : Dev nD) : Vec F S67108864 .f32 := V1 m d (Proc.devRef .tc main_v2)

def V2 (d : Dev nD) : Valuation τ sig (Elt F) :=
  Function.update (Function.update (V1 m d) (Proc.devRef .tc main_v3_0) (sumsAll (words m d) (flatX m d))) (Proc.devRef .tc main_v3_1) (cntsAll (F := F) (words m d))
def V4 (d : Dev nD) : Valuation τ sig (Elt F) := op5.result (Wend (V2 m) d)

theorem V1_keeps (d : Dev nD) (r : Ref sig .tc) (h0 : r ≠ main_v0) (h1 : r ≠ main_v1) (h2 : r ≠ main_v2) :
    V1 m d (Proc.devRef .tc r) = m (d, Proc.devRef .tc r) := by
  unfold V1
  rw [StableHlo.reshape_result_ne _ _ _ _ _ _ _ h2, StableHlo.unary_result_ne _ _ _ _ _ _ h1, StableHlo.reshape_result_ne _ _ _ _ _ _ _ h0]
  rfl

theorem V2_keeps (d : Dev nD) (b : DevRef τ sig) (h0 : b ≠ Proc.devRef .tc main_v3_0) (h1 : b ≠ Proc.devRef .tc main_v3_1) : V2 m d b = V1 m d b := by
  unfold V2
  rw [Function.update_of_ne h1, Function.update_of_ne h0]

theorem words_eq (d : Dev nD) : words m d = m ((SparseCore.T d).loc main_arg1) := V1_keeps m d main_arg1 (by decide) (by decide) (by decide)

theorem V4_keeps (d : Dev nD) (r : Ref sig .tc) (h0 : r ≠ main_v0) (h1 : r ≠ main_v1) (h2 : r ≠ main_v2) (h3 : r ≠ main_v3_0) (h3' : r ≠ main_v3_1)
    (h4 : r ≠ main_v4) (h5 : r ≠ main_v5) : V4 m d (Proc.devRef .tc r) = m (d, Proc.devRef .tc r) := by
  unfold V4
  rw [StableHlo.reshape_result_ne _ _ _ _ _ _ _ h5, Wend_keeps _ _ _ h4, V2_keeps m d _ (StableHlo.devRef_ne_of_ne h3) (StableHlo.devRef_ne_of_ne h3'),
    V1_keeps m d r h0 h1 h2]

theorem V4_result (d : Dev nD) :
    V4 m d (Proc.devRef .tc main_v5) = (fun _ => loss (sumsAll (words m d) (flatX m d)) (cntsAll (F := F) (words m d)) : Vec F S_ .f32) := by
  unfold V4
  rw [StableHlo.reshape_result, Wend_v4]
  have h1 : V2 m d (Proc.devRef .tc main_v3_1) = cntsAll (F := F) (words m d) := Function.update_self _ _ _
  have h0 : V2 m d (Proc.devRef .tc main_v3_0) = sumsAll (words m d) (flatX m d) :=
    (Function.update_of_ne (StableHlo.devRef_ne_of_ne (by decide)) _ _).trans (Function.update_self _ _ _)
  rw [h0, h1]
  rfl

end Contents

end Cert.Proof.Task

end
-- ==== Proof.Run.lean ====
/-
  The run of the whole program from any launch memory whose words are in range: it ends, the arguments are unchanged, the
  result is the stated function of them, every semaphore is back at zero.
-/
module

public import proofs.«01_k».proof.Proof.Whole

@[expose] public section

set_option maxRecDepth 16384

noncomputable section

namespace Cert.Proof.Task

open Cert.KernelIdeal Cert.KernelIdeal.Gen Cert.Proof.Model

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

abbrev PW : (K (F := F)).Pay (nD := nD) (Val := Elt F) (Name := ℕ) (U := UU) := P (words m) (flatX m)

/-! ## The ghost state at launch -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem own_u₀ : (ownU (u₀ (F := F)) : sProp 𝕄)
    ⊢ iprop(BI.own (EH (initOf (K (F := F)).hsCells (K (F := F)).hsToks))
      ∗ BI.own (EP (F := F) (initOf (Pipeline.cells (nD := nD) (τ := τ) (Pipeline.pin (pcfgs (F := F)) adm) cellOf_inj) (Pipeline.launchToks (nD := nD) (τ := τ) (Pipeline.pin (pcfgs (F := F)) adm) cellOf_inj)))) := by
  unfold u₀
  refine (ownU_pair _ _).trans (sep_mono_right ?_)
  exact (own_pair_emb (embR : Emb (UP × Counters) 𝕄) _ _).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (PW m).x q thr) := by
  iintro Hu
  ihave H := (own_u₀ (F := F)) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · iapply (Entails.of_eq (bigSep_congr fun (c : Dev nD) _ => (bigSep_univ_of_subsingleton (Φ := fun p : Fin 1 => (Pipeline.cellsGhost (Pipeline.pin (pcfgs (F := F)) adm) EP p c : sProp 𝕄)) 0)))
      iexact Hg
    · iapply (Entails.of_eq (bigSep_congr fun (c : Dev nD) _ => (bigSep_univ_of_subsingleton (Φ := fun p : Fin 1 => (Pipeline.toksInit (Pipeline.pin (pcfgs (F := F)) adm) EP p c : sProp 𝕄)) 0)))
      iexact Ht
  · rw [show (bigSep Finset.univ fun thr : Thread nD τ => bigSep Finset.univ fun q : Fin 1 => (PW m).x q thr) = bigSep Finset.univ fun _ => iprop(emp) from
      bigSep_congr fun _ _ => bigSep_univ_of_subsingleton (0 : Fin 1),
      show (bigSep Finset.univ fun _ : Thread nD τ => iprop(emp)) = (iprop(emp) : sProp 𝕄) from bigSep_emp_const _]
    iempintro

/-! ## The four arrays out of what `@main` holds, and back -/

def outRefs : Finset (Ref sig .tc) := {main_arg1, main_v2, main_v3_0, main_v3_1}
def backRefs : Finset (Ref sig .tc) := {main_arg1, main_v3_0, main_v3_1}
def outSet : Finset (DevRef τ sig) := outRefs.map ⟨Proc.devRef .tc, Proc.devRef_injective _⟩
def backSet : Finset (DevRef τ sig) := backRefs.map ⟨Proc.devRef .tc, Proc.devRef_injective _⟩

theorem outSet_sub : outSet ⊆ ucRefs := by decide
theorem backSet_sub : backSet ⊆ tcHeld := by decide
theorem rest_eq : tcHeld \ backSet = ucRefs \ outSet := by decide

theorem take_out (d : Dev nD) (W : Valuation τ sig (Elt F)) :
    (held (d : Thread nD τ) ucRefs W : sProp 𝕄)
      = iprop(((aLoc d ↦{fullShare} W (Proc.devRef .tc main_arg1)) ∗ (tLoc d ↦{fullShare} W (Proc.devRef .tc main_v2))
          ∗ (sLoc d ↦{fullShare} W (Proc.devRef .tc main_v3_0)) ∗ (nLoc d ↦{fullShare} W (Proc.devRef .tc main_v3_1)))
        ∗ held (d : Thread nD τ) (ucRefs \ outSet) W) := by
  rw [StableHlo.held_sub_split _ outSet_sub]
  refine congrArg (fun Z : sProp 𝕄 => iprop(Z ∗ _)) ?_
  unfold held outSet outRefs
  rw [bigSep_map, SparseCore.bigSep_insert' (by decide), SparseCore.bigSep_insert' (by decide), SparseCore.bigSep_insert' (by decide), bigSep_singleton]
  rfl

theorem put_back (d : Dev nD) (W : Valuation τ sig (Elt F)) :
    (held (d : Thread nD τ) tcHeld W : sProp 𝕄)
      = iprop(((aLoc d ↦{fullShare} W (Proc.devRef .tc main_arg1)) ∗ (sLoc d ↦{fullShare} W (Proc.devRef .tc main_v3_0))
          ∗ (nLoc d ↦{fullShare} W (Proc.devRef .tc main_v3_1)))
        ∗ held (d : Thread nD τ) (ucRefs \ outSet) W) := by
  rw [StableHlo.held_sub_split _ backSet_sub, rest_eq]
  refine congrArg (fun Z : sProp 𝕄 => iprop(Z ∗ _)) ?_
  unfold held backSet backRefs
  rw [bigSep_map, SparseCore.bigSep_insert' (by decide), SparseCore.bigSep_insert' (by decide), bigSep_singleton]
  rfl

theorem back_held (d : Dev nD) :
    iprop(((aLoc d ↦{fullShare} words m d) ∗ (sLoc d ↦{fullShare} sumsAll (words m d) (flatX m d)) ∗ (nLoc d ↦{fullShare} cntsAll (F := F) (words m d)))
        ∗ held (d : Thread nD τ) (ucRefs \ outSet) (V1 m d))
      ⊢ (held (d : Thread nD τ) tcHeld (V2 m d) : sProp 𝕄) := by
  have hr : (held (d : Thread nD τ) (ucRefs \ outSet) (V1 m d) : sProp 𝕄) = held (d : Thread nD τ) (ucRefs \ outSet) (V2 m d) :=
    StableHlo.held_congr _ fun b hb => (V2_keeps m d b
      (fun e => (Finset.mem_sdiff.mp hb).2 (e ▸ by decide)) (fun e => (Finset.mem_sdiff.mp hb).2 (e ▸ by decide))).symm
  have h1 : V2 m d (Proc.devRef .tc main_v3_1) = cntsAll (F := F) (words m d) := Function.update_self _ _ _
  have h0 : V2 m d (Proc.devRef .tc main_v3_0) = sumsAll (words m d) (flatX m d) :=
    (Function.update_of_ne (StableHlo.devRef_ne_of_ne (by decide)) _ _).trans (Function.update_self _ _ _)
  have ha : V2 m d (Proc.devRef .tc main_arg1) = words m d :=
    V2_keeps m d _ (StableHlo.devRef_ne_of_ne (by decide)) (StableHlo.devRef_ne_of_ne (by decide))
  rw [hr, put_back, h0, h1, ha]

/-! ## `@main` -/

abbrev FIN (d : Dev nD) : sProp 𝕄 := held (d : Thread nD τ) tcHeld (V4 m d)

theorem below (d : Dev nD) (W : Waits sig (HIx 1)) : (K (F := F)).WBelow (N := 1) (SparseCore.T d) W (8 * 1) := fun p _ =>
  match p with
  | (g, none) => Nat.zero_le _
  | (g, some q) => by
    have h := (K (F := F)).lev_some_le (N := 1) (SparseCore.T d, g) q
    have hq : q.val < 1 := q.isLt
    refine h.trans ?_
    omega

/-- After the call nothing is owed. -/
theorem tc_free (d : Dev nD) :
    ((K (F := F)).tcSt EH d 1 : sProp 𝕄) ⊢ iprop((∃ W, owes (SparseCore.T d) 0 W) ∗ ((∃ W, owes (SparseCore.T d) 0 W) -∗ (K (F := F)).tcSt EH d 1)) := by
  unfold SparseCore.Cfg.tcSt
  rw [(K (F := F)).Otc_end d (le_refl 1)]
  iintro ⟨⟨%W, -, HO⟩, HR⟩
  isplitl [HO]
  · iexists W; iexact HO
  iintro ⟨%W', HO⟩
  isplitl [HO]
  · iexists W'; isplitr
    · ipureintro; exact below d W'
    · iexact HO
  · iexact HR

theorem op0_sub : (op0 (F := F)).bufs ⊆ ucRefs := by
  show ({Proc.devRef .tc main_arg0, Proc.devRef .tc main_v0} : Finset (DevRef τ sig)) ⊆ ucRefs
  decide
theorem op1_sub : (op1 (F := F)).bufs ⊆ ucRefs := by
  show ({Proc.devRef .tc main_v0, Proc.devRef .tc main_v1} : Finset (DevRef τ sig)) ⊆ ucRefs
  decide
theorem op2_sub : (op2 (F := F)).bufs ⊆ ucRefs := by
  show ({Proc.devRef .tc main_v1, Proc.devRef .tc main_v2} : Finset (DevRef τ sig)) ⊆ ucRefs
  decide
theorem op5_sub : (op5 (F := F)).bufs ⊆ tcHeld := by
  show ({Proc.devRef .tc main_v4, Proc.devRef .tc main_v5} : Finset (DevRef τ sig)) ⊆ tcHeld
  decide

theorem after_region (d : Dev nD) :
    iprop((boundary (d : Thread nD τ) ∗ held (d : Thread nD τ) tcHeld (Wend (V2 m) d) ∗ ∃ Wd, owes (d : Thread nD τ) 0 Wd)
        ∗ ((∃ W, owes (SparseCore.T d) 0 W) -∗ (K (F := F)).tcSt EH d 1) ∗ (K (F := F)).tcSems0 d)
      ⊢ wp frame (wpE ((K (F := F)).defs (D (F := F))) 𝒱 (SparseCore.T d) none) Set.univ
          (hlo rfl (op5 (F := F)) fun _ => .ret (⟨⟩ : PUnit))
          fun _ => iprop(|={Set.univ}=> ((K (F := F)).tcSt EH d 1 ∗ FIN m d ∗ boundary (SparseCore.T d) ∗ (K (F := F)).tcSems0 d)) := by
  iintro ⟨⟨Hb, Hh, HO⟩, Hst, Hts⟩
  iapply (StableHlo.wp_hlo_within 𝒱 (SparseCore.T d) none Set.univ (op := op5) (S := tcHeld) op5_sub (V := Wend (V2 m) d)) $$ [Hb Hh]
  · isplitl [Hb] <;> iassumption
  iintro ⟨Hb, Hh⟩
  rw [wp_ret]; imodintro; imodintro
  isplitl [Hst HO]
  · iapply Hst; iexact HO
  isplitl [Hh]; · iexact Hh
  isplitl [Hb] <;> iassumption

theorem hmain (κ : GSem nD τ sig → ℕ) (d : Dev nD) :
    iprop((K (F := F)).ctx EH (PW m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) ucRefs (V0 m d) from unscopedBufs_held d (V0 m d)]
  simp only [main, wp_bind, wp_pure]
  iintro ⟨#Hctx, Hst, ⟨Hb, Hh, Hts, -⟩, HG⟩
  iapply (StableHlo.wp_hlo_within 𝒱 (SparseCore.T d) none Set.univ (op := op0) (S := ucRefs) op0_sub (V := V0 m d)) $$ [Hb Hh]
  · isplitl [Hb] <;> iassumption
  iintro ⟨Hb, Hh⟩
  rw [wp_ret]; imodintro
  iapply (StableHlo.wp_hlo_within 𝒱 (SparseCore.T d) none Set.univ (op := op1) (S := ucRefs) op1_sub (V := op0.result (V0 m d))) $$ [Hb Hh]
  · isplitl [Hb] <;> iassumption
  iintro ⟨Hb, Hh⟩
  rw [wp_ret]; imodintro
  iapply (StableHlo.wp_hlo_within 𝒱 (SparseCore.T d) none Set.univ (op := op2) (S := ucRefs) op2_sub (V := op1.result (op0.result (V0 m d)))) $$ [Hb Hh]
  · isplitl [Hb] <;> iassumption
  iintro ⟨Hb, Hh⟩
  rw [wp_ret]; imodintro
  ihave Hh := (show (held (SparseCore.T d) ucRefs (op2.result (op1.result (op0.result (V0 m d)))) : sProp 𝕄) ⊢ _ from Entails.of_eq (take_out d (V1 m d))) $$ Hh
  icases Hh with ⟨Harr, Hrest⟩
  iapply ((K (F := F)).wp_run (D (F := F)) 𝒱 (EH := EH) (P := PW m) κ d 0) $$ [Hst Harr Hrest Hb Hts HG]
  isplitr; · iexact Hctx
  isplitl [Hst]; · iexact Hst
  isplitl [Harr]
  · iapply (st_all d (words m) (flatX m) _ _); iexact Harr
  iintro ⟨Hst, Hdn⟩
  ihave Hdn := (all_dn d (words m) (flatX m)) $$ Hdn
  ihave Hh := (back_held m d) $$ [Hdn Hrest]
  · isplitl [Hdn] <;> iassumption
  ihave Hst := (show ((K (F := F)).tcSt EH d ((0 : Fin 1).val + 1) : sProp 𝕄) ⊢ _ from tc_free d) $$ Hst
  icases Hst with ⟨HO, Hst⟩
  ihave Hlv := (SparseCore.Cfg.ctx_levAts (K := K (F := F)) (EH := EH) (P := PW m) κ) $$ Hctx
  iapply (wp_mono frame _ _ fun _ => after_region m d) $$ [Hb Hh HO Hlv HG Hst Hts]
  iapply (wp_frame_r frame _ _)
  isplitr [Hst Hts]
  · iapply (wp_region (V2 m) d)
    isplitl [Hb]; · iexact Hb
    isplitl [Hh]; · iexact Hh
    isplitl [HO]; · iexact HO
    isplitl [Hlv] <;> iassumption
  · isplitl [Hst] <;> iassumption

/-! ## What the run says of the memory -/

theorem held_agree (d : Dev nD) (S : Finset (DevRef τ sig)) (W : Valuation τ sig (Elt F)) (s' : Phys nD τ sig (Elt F)) :
    iprop(held (d : Thread nD τ) S W ∗ SI s') ⊢ (⌜∀ b ∈ S, s'.mem.mem (d, b) = W b⌝ : sProp 𝕄) := by
  refine BIBase.Entails.trans ?_ (pure_forall (PROP := sProp 𝕄)).2
  refine forall_intro fun b => ?_
  by_cases hb : b ∈ S
  · unfold StableHlo.held
    iintro ⟨Hh, HSI⟩
    ihave Hb := (show (bigSep S fun b : DevRef τ sig => (((d, b) : Loc nD τ sig) ↦{fullShare} W b : sProp 𝕄)) ⊢ iprop(((d, b) : Loc nD τ sig) ↦{fullShare} W b) from bigSep_elim hb) $$ Hh
    ihave H := (SI_pointsTo_agree (st := s') (ℓ := ((d, b) : Loc nD τ sig)) (I := Finset.univ) (q := fullShare) (f := W b)) $$ [HSI Hb]
    · isplitl [HSI] <;> iassumption
    icases H with %h
    ipureintro; exact fun _ => funext fun i => h i (Finset.mem_univ i)
  · iintro -
    ipureintro; exact fun h => absurd h hb

def fq (d : Dev nD) (s' : Phys nD τ sig (Elt F)) : Prop := ∀ b ∈ tcHeld, s'.mem.mem (d, b) = V4 m d b

/-- The program's result, of the words and the flat table. -/
abbrev result (d : Dev nD) : F .f32 := loss (sumsAll (words m d) (flatX m d)) (cntsAll (F := F) (words m d))

def QC : PUnit × MemSt nD τ sig (Elt F) → Prop := fun r =>
  (∀ c : Dev nD, r.2.mem ((SparseCore.T c).loc main_v5) = (fun _ => result m c : Vec F S_ .f32)
    ∧ r.2.mem ((SparseCore.T c).loc main_arg0) = m ((SparseCore.T c).loc main_arg0) ∧ r.2.mem ((SparseCore.T c).loc main_arg1) = m ((SparseCore.T c).loc main_arg1))
  ∧ r.2.sem = fun _ => 0

theorem run_main [∀ e, Nonempty (Elt F e)] (hA : InRange (F := F) (words m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PW m) (A := ∅) facts v₀
    (fun q hq => match q with | 0 => nomatch hq)
    (fun q _ => match q with | 0 => tileObl (words m) (flatX m) hA)
    (fun q _ => match q with | 0 => SparseCore.Cfg.VecSplit.of_plain (vecSplit (words m) (flatX m)))
    m ρ main (fun d => pipeGhost (F := F) d) (FIN m) (u₀ (F := F)) (sep_elim_left.trans (hu₀ m)) (hmain m ρ) (fq m)
    (fun d s' => held_agree d tcHeld (V4 m d) s') (QC m) (fun _ h hz => ⟨fun c =>
      ⟨(h c (Proc.devRef .tc main_v5) (by decide)).trans (V4_result m c),
       (h c (Proc.devRef .tc main_arg0) (by decide)).trans (V4_keeps m c main_arg0 (by decide) (by decide) (by decide) (by decide) (by decide) (by decide) (by decide)),
       (h c (Proc.devRef .tc main_arg1) (by decide)).trans (V4_keeps m c main_arg1 (by decide) (by decide) (by decide) (by decide) (by decide) (by decide) (by decide))⟩, hz⟩)

end Cert.Proof.Task

end
-- ==== Proof.Frames.lean ====
/-
  The frames of the kernel and of the reference, and what the precondition says of the words.
-/
module

public import proofs.«01_k».proof.Defs
public import proofs.«01_k».proof.Proof.Run
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll

@[expose] public section

set_option maxRecDepth 16384

noncomputable section

namespace Cert.Proof.Task

open Cert.KernelIdeal Cert.KernelIdeal.Gen

open Idealize.ShloMosaic Idealize.SL.Sem

variable {F : FTy → Type} [FloatOps F]

/-- A word that is at least 0 and below 64 as a signed number is below 64 as it stands. -/
theorem word_small (v : BitVec 32) (h : IntOp.andi (IntOp.cmpi .sge v 0#32) (IntOp.cmpi .slt v 64#32) = 1#1) : v.toNat < 64 := by
  have both (p q : Bool) (e : IntOp.andi (BitVec.ofBool p) (BitVec.ofBool q) = 1#1) : p = true ∧ q = true := by
    revert e; cases p <;> cases q <;> decide
  obtain ⟨h0, h1⟩ := both _ _ h
  simp only [BitVec.sle_eq_decide, BitVec.slt_eq_decide, decide_eq_true_eq, BitVec.toInt_eq_toNat_cond, BitVec.toNat_ofNat,
    Nat.reducePow, Nat.reduceMod] at h0 h1
  omega

/-- The precondition, all ones, says that every word names a column. -/
theorem small_of_pre (X : FVec F Cert.Pre_in_range.S1048576x64 .f32) (A : IVec Cert.Pre_in_range.S1048576 32)
    (h : Cert.Pre_in_range.fn (F := F) X A = fun _ => 1#1) (j : S1048576.Idx) : (A j).toNat < 64 := by
  haveI : Subsingleton Cert.Pre_in_range.S_.Idx := ⟨fun a b => funext fun k => k.elim0⟩
  exact word_small _ (Host.reduce_andi_all _ _ _ _ _ (congrFun h fun k => k.elim0) j)

theorem inRange_of_pre (m : (ℓ : Loc nD τ sig) → Buf (Elt F) ℓ)
    (h : ∀ c : Dev nD, Cert.Pre_in_range.fn (F := F) (m ((c.tc : Thread nD τ).loc main_arg0)) (m ((c.tc : Thread nD τ).loc main_arg1)) = fun _ => 1#1) :
    InRange (F := F) (words m) := fun d j => by
  rw [words_eq]
  exact small_of_pre _ _ (h d) j

/-! The kernel as printed and the kernel read over the extended reals have one text, so one run serves both. -/

theorem same_bodies : @Cert.Kernel.defs₀ F _ Cert.Kernel.Gen.facts = @Cert.KernelIdeal.defs₀ F _ Cert.KernelIdeal.Gen.facts := by
  funext p
  match p with
  | .tc => funext ℓ a; match ℓ with
    | 0 => rfl
    | 1 => rfl
  | .scScalar c => funext ℓ a; match ℓ with
    | 0 => rfl
    | 1 => rfl
  | .scVector c s => funext ℓ a; match ℓ with
    | 0 => rfl
    | 1 => rfl

theorem same_defs : @Cert.Kernel.defs F _ Cert.Kernel.Gen.facts = @Cert.KernelIdeal.defs F _ Cert.KernelIdeal.Gen.facts :=
  congrArg (fun d => (Cert.KernelIdeal.sc (F := F)).defs (Pipeline.defs Cert.KernelIdeal.pcfgs d)) same_bodies

theorem same_threads : Cert.Kernel.threads (F := F) = Cert.KernelIdeal.threads (F := F) := rfl

theorem frame_of (m : (ℓ : Loc nD τ sig) → Buf (Elt F) ℓ) (ρ : Dev nD → PrngReg) [∀ e, Nonempty (Elt F e)]
    (h : ∀ c : Dev nD, Cert.Pre_in_range.fn (F := F) (m ((c.tc : Thread nD τ).loc main_arg0)) (m ((c.tc : Thread nD τ).loc main_arg1)) = fun _ => 1#1)
    (d) (hd : d = Cert.KernelIdeal.defs (F := F)) (t) (ht : t = Cert.KernelIdeal.threads (F := F)) :
    θ_run d t ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  subst hd ht
  exact (θ_run Cert.KernelIdeal.defs _ _).mono (fun _ r => ⟨fun c => (r.1 c).2, r.2⟩) (run_main m ρ (inRange_of_pre m h))

theorem frame_kernelIdeal : Cert.quiescent_KernelIdeal := fun m ρ h => frame_of m ρ h _ rfl _ rfl

theorem frame_kernel : Cert.quiescent_Kernel := fun m ρ h =>
  frame_of (F := Bits) m ρ h Cert.Kernel.defs same_defs Cert.Kernel.threads same_threads

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Task

end
-- ==== Proof.Totals.lean ====
/-
  What the tasks' partial results add up to, over the extended reals: the sums of all lanes of all tasks are the sum over
  all points of the table entry the point is assigned, and the counts of all tasks are the counts over all points.
-/
module

public import proofs.«01_k».proof.Defs
public import proofs.«01_k».proof.Proof.Deal
public import Idealize.ShloMosaic.Lib.Pointwise
public import Idealize.ShloMosaic.Lib.IdealHost

@[expose] public section

set_option maxRecDepth 16384

noncomputable section

namespace Cert.Proof.Model

open Cert.KernelIdeal Idealize.ShloMosaic

/-- A sum over `a * b` positions taken in `a` runs of `b`. -/
theorem sum_cut {M : Type} [AddCommMonoid M] (f : ℕ → M) (a b : ℕ) :
    ∑ p ∈ Finset.range (a * b), f p = ∑ i ∈ Finset.range a, ∑ j ∈ Finset.range b, f (b * i + j) := by
  induction a with
  | zero => simp
  | succ a ih => rw [Nat.succ_mul, Finset.sum_range_add, ih, Finset.sum_range_succ, Nat.mul_comm a b]

/-- An accumulator after `t` trips, at a lane. -/
theorem accN_apply (g : ℕ → Ideal .f32) (s t : ℕ) (x : S16.Idx) :
    accN g s t x = ∑ j ∈ Finset.range t, ∑ i ∈ Finset.range 4, (g (128 * j + (16 * (2 * i + s) + (x 0).val)) : EReal) := by
  induction t with
  | zero => exact Ideal.ofBits_zero_f32
  | succ t ih =>
    rw [Finset.sum_range_succ, ← ih, Finset.sum_range_succ, Finset.sum_range_succ, Finset.sum_range_succ, Finset.sum_range_succ,
      Finset.sum_range_zero, zero_add, ← add_assoc, ← add_assoc, ← add_assoc]
    have e : ∀ i, g (128 * t + 16 * (s + 2 * i) + (x 0).val) = g (128 * t + (16 * (2 * i + s) + (x 0).val)) := fun i => by
      congr 1; omega
    exact congrArg₂ (fun a b : EReal => a + b) (congrArg₂ (fun a b : EReal => a + b) (congrArg₂ (fun a b : EReal => a + b)
      (congrArg (fun b : EReal => accN g s t x + b) (e 0)) (e 1)) (e 2)) (e 3)

/-- The two accumulators of all sixteen lanes after 256 trips hold the sum of all 32768 positions. -/
theorem lanes_sum (g : ℕ → Ideal .f32) :
    ∑ l ∈ Finset.range 16, (∑ j ∈ Finset.range 256, ∑ i ∈ Finset.range 4, (g (128 * j + (16 * (2 * i + 0) + l)) : EReal)
      + ∑ j ∈ Finset.range 256, ∑ i ∈ Finset.range 4, (g (128 * j + (16 * (2 * i + 1) + l)) : EReal))
      = ∑ p ∈ Finset.range 32768, (g p : EReal) := by
  refine Eq.trans ?_ (sum_cut (M := EReal) g 256 128).symm
  simp only [← Finset.sum_add_distrib]
  rw [Finset.sum_comm]
  refine Finset.sum_congr rfl fun j _ => ?_
  refine Eq.trans ?_ (sum_cut (M := EReal) (fun r => g (128 * j + r)) 8 16).symm
  refine Eq.trans ?_ (sum_cut (M := EReal) (fun b => ∑ l ∈ Finset.range 16, (g (128 * j + (16 * b + l)) : EReal)) 4 2).symm
  rw [Finset.sum_comm]
  refine Finset.sum_congr rfl fun i _ => ?_
  refine Finset.sum_add_distrib.trans (Eq.symm ?_)
  rw [Finset.sum_range_succ _ 1, Finset.sum_range_one]

/-- The indicator of a word being `k`. -/
def hit (k : ℕ) (v : BitVec 32) : EReal := if k = v.toNat then 1 else 0

/-- The lanes of a list, counted one after another. -/
theorem hist_list (v : S16.Idx → BitVec 32) (L : List (Fin (![16] 0))) (H : ℕ → Ideal .f32) (k : ℕ) :
    L.foldl (fun g i j => if j = (v (Shape.ofLane i)).toNat then FloatOps.idxAddf (g j) (Scalar.ofBits .f32 0x3F800000#32) else g j) H k
      = (H k : EReal) + (L.map fun i => hit k (v (Shape.ofLane i))).sum := by
  induction L generalizing H with
  | nil => exact (add_zero _).symm
  | cons i L ih =>
    rw [List.foldl_cons, ih, List.map_cons, List.sum_cons, ← add_assoc]
    refine congrArg (fun a : EReal => a + (L.map fun i => hit k (v (Shape.ofLane i))).sum) ?_
    unfold hit
    by_cases e : k = (v (Shape.ofLane i)).toNat
    · rw [if_pos e, if_pos e]
      exact congrArg (fun b : EReal => (H k : EReal) + b) Ideal.ofBits_one_f32
    · rw [if_neg e, if_neg e]
      exact (add_zero _).symm

/-- The histogram of the first `u` blocks counts their words. -/
theorem histN_apply (a : ℕ → BitVec 32) (u k : ℕ) :
    histN (F := Ideal) a u k = ∑ p ∈ Finset.range (u * 16), hit k (a p) := by
  induction u with
  | zero => exact Ideal.ofBits_zero_f32
  | succ u ih =>
    rw [Nat.succ_mul, Finset.sum_range_add, ← ih]
    refine (hist_list _ _ _ _).trans (congrArg (fun b : EReal => histN (F := Ideal) a u k + b) ?_)
    refine Eq.trans (Fin.sum_univ_def fun i : Fin 16 => hit k (blk a (16 * u) (Shape.ofLane i))).symm ?_
    rw [Finset.sum_range]
    refine Finset.sum_congr rfl fun i _ => ?_
    show hit k (a (16 * u + _)) = _
    rw [Nat.mul_comm]
    rfl

end Cert.Proof.Model

namespace Cert.Proof.Task

open Cert.KernelIdeal Cert.Proof.Model Idealize.ShloMosaic

/-- The partial counts of all tasks add up to the counts over all points. -/
theorem cnts_total (A : Vec Ideal S1048576 .i32) (k : Fin 64) :
    ∑ w : Fin 32, (cntsAll (F := Ideal) A (ix2 w k) : EReal) = ∑ n ∈ Finset.range 1048576, hit k.val (A (at1M n)) := by
  refine Eq.trans ?_ (sum_cut (M := EReal) (fun n => hit k.val (A (at1M n))) 32 32768).symm
  rw [Finset.sum_range]
  refine Finset.sum_congr rfl fun w _ => ?_
  have h := histN_apply (wordsOf (F := Ideal) A w.val) 2048 k.val
  rw [show 2048 * 16 = 32768 from rfl] at h
  exact h

/-- The partial sums of all lanes of all tasks add up to the sum over all points of the entry the point is assigned. -/
theorem sums_total (A : Vec Ideal S1048576 .i32) (X : Vec Ideal S67108864 .f32) (hA : ∀ n, (A (at1M n)).toNat < 64) :
    ∑ w : Fin 32, ∑ l : Fin 16, (sumsAll (F := Ideal) A X (ix2 w l) : EReal)
      = ∑ n ∈ Finset.range 1048576, (X (at64M (place n (A (at1M n)).toNat)) : EReal) := by
  refine Eq.trans ?_ (sum_cut (M := EReal) (fun n => X (at64M (place n (A (at1M n)).toNat))) 32 32768).symm
  rw [Finset.sum_range]
  refine Finset.sum_congr rfl fun w _ => ?_
  refine Eq.trans (Eq.trans (Finset.sum_congr rfl fun l _ => ?_) (Finset.sum_range fun l => _).symm)
    ((lanes_sum (got w.val (wordsOf (F := Ideal) A w.val) (tabOf X))).trans (Finset.sum_congr rfl fun p hp => ?_))
  · refine (congrArg₂ (fun a b : EReal => a + b) (accN_apply _ 0 256 _) (accN_apply _ 1 256 _)).trans ?_
    rw [show (atLane ((ix2 w l) 1).val 0).val = l.val from Nat.mod_eq_of_lt l.isLt]
    rfl
  · have hp := Finset.mem_range.mp hp
    show tabOf X (word w.val _ p).toNat = _
    rw [word_toNat w.val _ p w.isLt hp (hA _)]

end Cert.Proof.Task
-- ==== Proof.Value.lean ====
/-
  What the kernel returns, over the extended reals: the mean of the assigned entries less a tenth of the entropy of the
  clusters' shares, from the words and the table as the host holds them.
-/
module

public import proofs.«01_k».proof.Defs
public import proofs.«01_k».proof.Proof.Totals
public import proofs.«01_k».proof.Proof.Run

@[expose] public section

set_option maxRecDepth 16384

noncomputable section

namespace Cert.Proof.Task

open Cert.KernelIdeal Cert.KernelIdeal.Gen Cert.Proof.Model Idealize.ShloMosaic

/-- The loss of a total and of the clusters' counts: both are scaled by `2⁻²⁰`, one over the number of points. -/
def lossOf (total : EReal) (cnt : Fin 64 → EReal) : EReal :=
  total * Ideal.ofBits .f32 0x35800000#32 - Ideal.ofBits .f32 0x3DCCCCCD#32 *
    (0 - ∑ k, cnt k * Ideal.ofBits .f32 0x35800000#32 * Ideal.log (cnt k * Ideal.ofBits .f32 0x35800000#32 + Ideal.ofBits .f32 0x322BCC77#32))

/-- The final step is the loss of the partial results' totals. -/
theorem loss_eq (f0 : Vec Ideal S32x16 .f32) (f1 : Vec Ideal S32x64 .f32) :
    (loss f0 f1 : EReal) = lossOf (∑ w : Fin 32, ∑ l : Fin 16, f0 (ix2 w l)) (fun k => ∑ w : Fin 32, f1 (ix2 w k)) := by
  pointwise [loss, k1_pay1, lossOf]

/-- The host's layout puts entry (row `n`, column `k`) of the table at its place in the flat table. -/
theorem layout_place {α : Type} (X : S1048576x64.Idx → α) (n k : ℕ) (hn : n < 1048576) (hk : k < 64) :
    shapeCast S67108864 (transpose S8x8192x8x128 [2, 0, 3, 1] (shapeCast S8192x128x8x8 X shapeCasts_S1048576x64_S8192x128x8x8)
      transposes_S8192x128x8x8_S8x8192x8x128_2_0_3_1) shapeCasts_S8x8192x8x128_S67108864 (at64M (place n k))
      = X (ix2 ⟨n, hn⟩ ⟨k, hk⟩) := by
  refine (shapeCast_apply _ _ _ (ix4 (⟨k / 8, by omega⟩ : Fin 8) (⟨n / 128, by omega⟩ : Fin 8192) (⟨k % 8, by omega⟩ : Fin 8) (⟨n % 128, by omega⟩ : Fin 128)) ?_).trans ?_
  · rw [rowMajor_val4 _ _ _ _ rfl rfl rfl, rowMajor_val1]
    have := place_lt n k hn hk
    show k / 8 * 8388608 + n / 128 * 1024 + k % 8 * 128 + n % 128 = place n k % 67108864
    rw [Nat.mod_eq_of_lt this]
    unfold place
    omega
  refine Eq.trans ?_ (shapeCast_apply X shapeCasts_S1048576x64_S8192x128x8x8
    (ix4 (⟨n / 128, by omega⟩ : Fin 8192) (⟨n % 128, by omega⟩ : Fin 128) (⟨k / 8, by omega⟩ : Fin 8) (⟨k % 8, by omega⟩ : Fin 8)) _ ?_)
  · pointwise
  · rw [rowMajor_val4 _ _ _ _ rfl rfl rfl, rowMajor_val2 _ _ rfl]
    show n * 64 + k = n / 128 * 8192 + n % 128 * 64 + k / 8 * 8 + k % 8
    omega

/-- The flat table is the host's layout of the table. -/
theorem flatX_eq (m : (ℓ : Loc nD τ sig) → Buf (Elt Ideal) ℓ) (d : Dev nD) :
    flatX m d = shapeCast S67108864 (transpose S8x8192x8x128 [2, 0, 3, 1]
      (shapeCast S8192x128x8x8 (m ((SparseCore.T d).loc main_arg0)) shapeCasts_S1048576x64_S8192x128x8x8)
      transposes_S8192x128x8x8_S8x8192x8x128_2_0_3_1) shapeCasts_S8x8192x8x128_S67108864 := by
  unfold flatX V1
  rw [StableHlo.reshape_result]
  rfl

/-- The column that a word names. -/
def col (v : BitVec 32) : Fin 64 := ⟨v.toNat % 64, Nat.mod_lt _ (by decide)⟩

/-- The loss of a table and of the clusters its rows are assigned. -/
def lossAt (X : S1048576x64.Idx → EReal) (A : S1048576.Idx → BitVec 32) : EReal :=
  lossOf (∑ n : Fin 1048576, X (ix2 n (col (A (ix1 n))))) (fun k => ∑ n : Fin 1048576, hit k.val (A (ix1 n)))

theorem at1M_eq (n : Fin 1048576) : at1M n.val = ix1 n := by
  funext a
  obtain rfl := Fin.eq_zero a
  exact Fin.ext (Nat.mod_eq_of_lt n.isLt)

/-- The kernel's result, from the arguments. -/
theorem result_eq (m : (ℓ : Loc nD τ sig) → Buf (Elt Ideal) ℓ) (d : Dev nD) (h : InRange (F := Ideal) (words m)) :
    (result m d : EReal) = lossAt (m ((SparseCore.T d).loc main_arg0)) (m ((SparseCore.T d).loc main_arg1)) := by
  refine (loss_eq _ _).trans ?_
  unfold lossAt
  rw [sums_total _ _ fun n => h d _, Finset.sum_range]
  refine congrArg₂ lossOf (Finset.sum_congr rfl fun n _ => ?_) (funext fun k => ?_)
  · rw [flatX_eq, layout_place _ n.val _ n.isLt (h d _), ← words_eq m d, ← at1M_eq]
    exact congrArg (fun k => m ((SparseCore.T d).loc main_arg0) (ix2 n k)) (Fin.ext (Nat.mod_eq_of_lt (h d (at1M n.val))).symm)
  · rw [cnts_total, Finset.sum_range]
    exact Finset.sum_congr rfl fun n _ => by rw [at1M_eq, words_eq]

end Cert.Proof.Task
-- ==== Proof.Reference.lean ====
/-
  What the reference returns, over the extended reals, when every word names one of the sixty-four columns: the same
  loss of the table and of the clusters its rows are assigned.
-/
module

public import proofs.«01_k».proof.Defs
public import proofs.«01_k».proof.Proof.Value
public import proofs.«01_k».proof.Proof.Gen.ReferenceIdeal.Run
public import Idealize.ShloMosaic.Lib.ReduceAll
public import Idealize.ShloMosaic.Lib.Routing.Ops
public import Idealize.ShloMosaic.Lib.Routing.OpsPair
public import Idealize.ShloMosaic.Lib.Tactic.CleanTypes

@[expose] public section

set_option maxRecDepth 16384

noncomputable section

namespace Cert.Proof.Ref

open Cert.ReferenceIdeal Cert.ReferenceIdeal.Gen Cert.Proof.Model Cert.Proof.Task Idealize.ShloMosaic

/-! ## The counts -/

/-- Adding one for every position of a list that has `P`. -/
theorem fold_count {ι : Type} (L : List ι) (P : ι → Prop) [DecidablePred P] (z : ℕ) :
    L.foldl (fun a n => if P n then IntOp.addi a 1#32 else a) (BitVec.ofNat 32 z) = BitVec.ofNat 32 (z + L.countP fun n => decide (P n)) := by
  induction L generalizing z with
  | nil => rfl
  | cons n L ih =>
    rw [List.foldl_cons, List.countP_cons]
    by_cases hp : P n
    · rw [if_pos hp, if_pos (decide_eq_true hp), show IntOp.addi (BitVec.ofNat 32 z) 1#32 = BitVec.ofNat 32 (z + 1) from (BitVec.ofNat_add z 1).symm, ih]
      congr 1; omega
    · rw [if_neg hp, if_neg fun h => hp (of_decide_eq_true h), ih]; rfl

/-- A count is a sum of indicators. -/
theorem countP_coe {ι : Type} (L : List ι) (P : ι → Prop) [DecidablePred P] :
    (((L.countP fun n => decide (P n) : ℕ) : ℝ) : EReal) = (L.map fun n => if P n then (1 : EReal) else 0).sum := by
  induction L with
  | nil => simp
  | cons n L ih =>
    rw [List.countP_cons, List.map_cons, List.sum_cons, ← ih]
    by_cases hp : P n
    · rw [if_pos (decide_eq_true hp), if_pos hp, Nat.cast_add, Nat.cast_one, EReal.coe_add, EReal.coe_one, add_comm]
    · rw [if_neg fun h => hp (of_decide_eq_true h), if_neg hp, Nat.add_zero, zero_add]

/-- Update `n` of the reference's histogram lands at the entry its word names. -/
theorem lands (idx : IVec S1048576x1 32) (n : Fin 1048576) (k : Fin 64) :
    scatter_S64_S1048576x1_S1048576_n_0_0_1.resultIdx? (ix1 n) idx = some (ix1 k) ↔ (idx (ix2 n (0 : Fin 1))).toInt = (k.val : ℤ) := by
  refine (Routing.resultIdx?_eq_some _ _ _ _).trans ?_
  have hs : scatter_S64_S1048576x1_S1048576_n_0_0_1.start (ix1 n) idx 0 = (idx (ix2 n (0 : Fin 1))).toInt := by
    unfold ScatterDims.start
    rw [dif_pos (show (0 : Fin S64.rank) ∈ scatter_S64_S1048576x1_S1048576_n_0_0_1.scatterDimsToOperandDims from List.mem_singleton.2 rfl)]
    refine congrArg (fun i => (idx i).toInt) (funext fun b => ?_)
    match b with
    | ⟨0, _⟩ => rfl
    | ⟨1, _⟩ => rfl
  have hw : scatter_S64_S1048576x1_S1048576_n_0_0_1.window (ix1 n) 0 = 0 := rfl
  constructor
  · intro h
    have h0 := h 0
    rw [hs, hw] at h0
    exact (add_zero _).symm.trans h0
  · intro h a
    obtain rfl := Fin.eq_zero a
    rw [hs, hw, h]
    exact add_zero _

/-- The reference's histogram at an entry, as a real number: how many words name the entry. -/
theorem scatter_count (x0 : IVec S64 32) (h0 : ∀ k, x0 k = 0#32) (idx : IVec S1048576x1 32) (upd : IVec S1048576 32) (hu : ∀ n, upd n = 1#32)
    (A : S1048576.Idx → BitVec 32) (hi : ∀ n : Fin 1048576, idx (ix2 n (0 : Fin 1)) = A (ix1 n)) (hA : ∀ j, (A j).toNat < 64) (k : Fin 64) :
    ((((Host.scatter scatter_S64_S1048576x1_S1048576_n_0_0_1 IntOp.addi x0 idx upd (ix1 k)).toInt : ℤ) : ℝ) : EReal)
      = ∑ n : Fin 1048576, hit k.val (A (ix1 n)) := by
  rw [Routing.scatter_at, h0]
  simp only [hu]
  have hlt : (List.finRange S1048576.numel).countP (fun n => decide (scatter_S64_S1048576x1_S1048576_n_0_0_1.resultIdx? (S1048576.rowMajor.symm n) idx = some (ix1 k))) ≤ 1048576 :=
    List.countP_le_length.trans (by rw [List.length_finRange]; exact (Routing.numel1 1048576).le)
  rw [show (0#32) = BitVec.ofNat 32 0 from rfl, fold_count, Nat.zero_add, StableHlo.Predicate.toInt_ofNat_small _ (by omega), Int.cast_natCast, countP_coe,
    ← Fin.sum_univ_def]
  refine Fintype.sum_equiv (finCongr (Routing.numel1 1048576)) _ _ fun n => ?_
  rw [Routing.symm1, ← ix1_eq_valueIdx]
  unfold hit
  refine if_congr ((lands idx (n.cast (Routing.numel1 1048576)) k).trans ?_) rfl rfl
  rw [hi]
  have ha := hA (ix1 (n.cast (Routing.numel1 1048576)))
  show _ ↔ k.val = (A (ix1 (n.cast (Routing.numel1 1048576)))).toNat
  generalize A (ix1 (n.cast (Routing.numel1 1048576))) = v at ha ⊢
  rw [BitVec.toInt_eq_toNat_cond, if_pos (by omega)]
  omega

/-! ## The entries -/

/-- Entry `n` that the reference takes from the table is the one its word names. -/
theorem take_entry {α : Type} (X : S1048576x64.Idx → α) (idx : IVec S1048576x1x1 32) (n : Fin 1048576) (h : (idx (ix3 n (0 : Fin 1) (0 : Fin 1))).toNat < 64) :
    Host.gather gather_S1048576x64_S1048576x1x1_S1048576x1_n_1_0_0_1_2_11 X idx (ix2 n (0 : Fin 1)) = X (ix2 n (col (idx (ix3 n (0 : Fin 1) (0 : Fin 1))))) := by
  unfold Host.gather
  refine congrArg X (funext fun a => Fin.ext ?_)
  match a with
  | ⟨0, _⟩ =>
    show gather_S1048576x64_S1048576x1x1_S1048576x1_n_1_0_0_1_2_11.start (ix2 n (0 : Fin 1)) idx 0
      + gather_S1048576x64_S1048576x1x1_S1048576x1_n_1_0_0_1_2_11.batchCoord (ix2 n (0 : Fin 1)) 0
      + gather_S1048576x64_S1048576x1x1_S1048576x1_n_1_0_0_1_2_11.offCoord (ix2 n (0 : Fin 1)) 0 = n.val
    have e0 : gather_S1048576x64_S1048576x1x1_S1048576x1_n_1_0_0_1_2_11.start (ix2 n (0 : Fin 1)) idx 0 = 0 := rfl
    have e1 : gather_S1048576x64_S1048576x1x1_S1048576x1_n_1_0_0_1_2_11.batchCoord (ix2 n (0 : Fin 1)) 0 = n.val := rfl
    have e2 : gather_S1048576x64_S1048576x1x1_S1048576x1_n_1_0_0_1_2_11.offCoord (ix2 n (0 : Fin 1)) 0 = 0 := rfl
    rw [e0, e1, e2]
    omega
  | ⟨1, _⟩ =>
    show gather_S1048576x64_S1048576x1x1_S1048576x1_n_1_0_0_1_2_11.start (ix2 n (0 : Fin 1)) idx 1
      + gather_S1048576x64_S1048576x1x1_S1048576x1_n_1_0_0_1_2_11.batchCoord (ix2 n (0 : Fin 1)) 1
      + gather_S1048576x64_S1048576x1x1_S1048576x1_n_1_0_0_1_2_11.offCoord (ix2 n (0 : Fin 1)) 1 = (idx (ix3 n (0 : Fin 1) (0 : Fin 1))).toNat % 64
    have e0 : gather_S1048576x64_S1048576x1x1_S1048576x1_n_1_0_0_1_2_11.start (ix2 n (0 : Fin 1)) idx 1
        = min (idx (ix3 n (0 : Fin 1) (0 : Fin 1))).toInt.toNat (64 - 1) := by
      unfold GatherDims.start
      rw [dif_pos (show (1 : Fin S1048576x64.rank) ∈ gather_S1048576x64_S1048576x1x1_S1048576x1_n_1_0_0_1_2_11.startIndexMap from List.mem_singleton.2 rfl)]
      refine congrArg (fun i => min (idx i).toInt.toNat (64 - 1)) (funext fun b => ?_)
      match b with
      | ⟨0, _⟩ => rfl
      | ⟨1, _⟩ => rfl
      | ⟨2, _⟩ => rfl
    have e1 : gather_S1048576x64_S1048576x1x1_S1048576x1_n_1_0_0_1_2_11.batchCoord (ix2 n (0 : Fin 1)) 1 = 0 := rfl
    have e2 : gather_S1048576x64_S1048576x1x1_S1048576x1_n_1_0_0_1_2_11.offCoord (ix2 n (0 : Fin 1)) 1 = 0 := rfl
    rw [e0, e1, e2]
    generalize idx (ix3 n (0 : Fin 1) (0 : Fin 1)) = v at h ⊢
    rw [BitVec.toInt_eq_toNat_cond, if_pos (by omega)]
    omega

/-! ## The words -/

/-- A word below 64 is its own maximum with zero. -/
theorem max_zero (v : BitVec 32) (h : v.toNat < 64) : IntOp.maxsi 0#32 v = v := by
  have hn : ¬v.slt 0#32 = true := by
    simp only [BitVec.slt_eq_decide, decide_eq_true_eq, BitVec.toInt_eq_toNat_cond, BitVec.toNat_ofNat, Nat.reducePow, Nat.reduceMod]
    omega
  unfold IntOp.maxsi
  rw [if_neg hn]

/-- A word below 64 passes the reference's test of its range. -/
theorem passes (v : BitVec 32) (h : v.toNat < 64) : IntOp.andi (IntOp.cmpi .sge v 0#32) (IntOp.cmpi .sle v 63#32) = 1#1 := by
  rw [WordCmp.cmpi_sge_eq, WordCmp.cmpi_sle_eq, WordCmp.andi_ofBool, WordCmp.ofBool_eq_one_iff, Bool.and_eq_true, decide_eq_true_eq, decide_eq_true_eq]
  simp only [BitVec.toInt_eq_toNat_cond, BitVec.toNat_ofNat, Nat.reducePow, Nat.reduceMod]
  omega

/-- The reference's index words for the entries: negative words wrapped. -/
abbrev idx3 (A : IVec S1048576 32) : IVec S1048576x1x1 32 :=
  shapeCast S1048576x1x1 (select (cmpi .slt (broadcastInDim S1048576x1 ![0] bcast_S1048576_S1048576x1_0 A) (broadcastInDim S1048576x1 ![] bcast_S_S1048576x1 (constantI S_ 32 0#32)))
    (addi (broadcastInDim S1048576x1 ![0] bcast_S1048576_S1048576x1_0 A) (broadcastInDim S1048576x1 ![] bcast_S_S1048576x1 (constantI S_ 32 64#32)))
    (broadcastInDim S1048576x1 ![0] bcast_S1048576_S1048576x1_0 A)) shapeCasts_S1048576x1_S1048576x1x1

theorem idx3_at (A : IVec S1048576 32) (hA : ∀ j, (A j).toNat < 64) (n : Fin 1048576) : idx3 A (ix3 n (0 : Fin 1) (0 : Fin 1)) = A (ix1 n) := by
  pointwise [idx3]
  exact Routing.wrap_of_lt _ _ (lt_of_lt_of_le (hA _) (by decide))

/-- The reference's index words for the counts: negative words set to zero, then wrapped. -/
abbrev idxCol (A : IVec S1048576 32) : IVec S1048576x1 32 :=
  broadcastInDim S1048576x1 ![0] bcast_S1048576_S1048576x1_0
    (select (cmpi .slt (maxsi (broadcastInDim S1048576 ![] bcast_S_S1048576 (id (constantI S_ 32 0#32))) A) (broadcastInDim S1048576 ![] bcast_S_S1048576 (constantI S_ 32 0#32)))
      (addi (maxsi (broadcastInDim S1048576 ![] bcast_S_S1048576 (id (constantI S_ 32 0#32))) A) (broadcastInDim S1048576 ![] bcast_S_S1048576 (constantI S_ 32 64#32)))
      (maxsi (broadcastInDim S1048576 ![] bcast_S_S1048576 (id (constantI S_ 32 0#32))) A))

theorem idxCol_at (A : IVec S1048576 32) (hA : ∀ j, (A j).toNat < 64) (n : Fin 1048576) : idxCol A (ix2 n (0 : Fin 1)) = A (ix1 n) := by
  pointwise [idxCol]
  have e : IntOp.maxsi (id (constantI S_ 32 0#32) ix0) (A (ix1 n)) = A (ix1 n) := max_zero _ (hA _)
  rw [e]
  exact Routing.wrap_of_lt _ _ (lt_of_lt_of_le (hA _) (by decide))

/-! ## The value -/

/-- Dividing by the number of points is scaling by `2⁻²⁰`. -/
theorem div_points (x : EReal) : Ideal.div x (Ideal.ofBits .f32 0x49800000#32) = x * Ideal.ofBits .f32 0x35800000#32 := by
  have h1 : Ideal.ofBits .f32 0x49800000#32 = ((1048576 : ℝ) : EReal) := by
    simp [Ideal.ofBits, Ideal.ieee, -EReal.coe_mul]; norm_num
  have h2 : Ideal.ofBits .f32 0x35800000#32 = ((1 / 1048576 : ℝ) : EReal) := by
    simp [Ideal.ofBits, Ideal.ieee, -EReal.coe_mul]; norm_num
  rw [h1, h2, Ideal.div_coe (by norm_num)]

/-- The reference's result is the same loss. -/
theorem ref_eq (m : (ℓ : Loc nD τ sig) → Buf (Elt Ideal) ℓ) (c : Dev nD) (j : S_.Idx)
    (hA : ∀ j, ((m ((c.tc : Thread nD τ).loc main_arg1) : S1048576.Idx → BitVec 32) j).toNat < 64) :
    (Value.res_main_v25 m c j : EReal) = lossAt (m ((c.tc : Thread nD τ).loc main_arg0)) (m ((c.tc : Thread nD τ).loc main_arg1)) := by
  unfold Value.res_main_v25
  clean_types
  generalize m ((c.tc : Thread nD τ).loc main_arg0) = X
  generalize m ((c.tc : Thread nD τ).loc main_arg1) = A at hA
  pointwise
  simp only [div_points]
  unfold lossAt lossOf
  refine congrArg₂ (fun a b : EReal => a * Ideal.ofBits .f32 0x35800000#32 - Ideal.ofBits .f32 0x3DCCCCCD#32 * b) (Finset.sum_congr rfl fun n _ => ?_)
    ((zero_sub _).symm.trans (congrArg (fun b : EReal => 0 - b) (Finset.sum_congr rfl fun k _ => ?_)))
  · have hw : Scalar.select (IntOp.cmpi .slt (A (ix1 n)) 0#32) (IntOp.addi (A (ix1 n)) 64#32) (A (ix1 n)) = A (ix1 n) :=
      Routing.wrap_of_lt _ _ (lt_of_lt_of_le (hA _) (by decide))
    simp only [hw, passes _ (hA (ix1 n))]
    have e := idx3_at A hA n
    refine (take_entry X (idx3 A) n (by rw [e]; exact hA _)).trans ?_
    rw [e]
  · exact congrArg (fun x : EReal => x * Ideal.ofBits .f32 0x35800000#32 * Ideal.log (x * Ideal.ofBits .f32 0x35800000#32 + Ideal.ofBits .f32 0x322BCC77#32))
      (scatter_count _ (fun _ => rfl) (idxCol A) _ (fun _ => rfl) A (idxCol_at A hA) hA k)

end Cert.Proof.Ref
-- ==== Proof.Equal.lean ====
/-
  The kernel and the reference return the same loss, over the extended reals, when every word names a column.
-/
module

public import proofs.«01_k».proof.Defs
public import proofs.«01_k».proof.Proof.Frames
public import proofs.«01_k».proof.Proof.Reference

@[expose] public section

set_option maxRecDepth 16384

noncomputable section

namespace Cert.Proof.Task

open Cert.KernelIdeal Cert.KernelIdeal.Gen Idealize.ShloMosaic Idealize.SL.Sem

theorem frame_reference_in_range : Cert.quiescent_ReferenceIdeal_pre_in_range := fun m ρ _ => frame_reference m ρ trivial

theorem equal : Cert.algebraic_KernelIdeal_ReferenceIdeal := fun m g m' g' hpre hargs => by
  have hA := inRange_of_pre m hpre
  refine ⟨fun c => (fun _ => result m c : Vec Ideal S_ .f32),
    (θ_run Cert.KernelIdeal.defs _ _).mono (fun _ r => r.1) (run_main m g hA),
    (θ_run Cert.ReferenceIdeal.defs _ _).mono (fun r h c => ⟨(h c).1.trans (funext fun j => ?_), (h c).2⟩) (Cert.ReferenceIdeal.Value.run (F := Ideal) m' g')⟩
  have hA' : ∀ j, ((m' ((c.tc : Thread Cert.ReferenceIdeal.nD Cert.ReferenceIdeal.τ).loc Cert.ReferenceIdeal.main_arg1) : S1048576.Idx → BitVec 32) j).toNat < 64 := fun j => by
    rw [(hargs c).2]
    exact small_of_pre _ _ (hpre c) j
  refine (Ref.ref_eq m' c j hA').trans ?_
  rw [(hargs c).1, (hargs c).2]
  exact (result_eq m c hA).symm

end Cert.Proof.Task
-- ==== Proof.lean ====
/-
  The claims of this directory: the frames of the kernel, as printed and over the extended reals, and of the reference;
  that the two readings of the kernel have one text; and that the kernel and the reference return the same value.
-/
module

public import proofs.«01_k».proof.Defs
public import proofs.«01_k».proof.Proof.Frames
public import proofs.«01_k».proof.Proof.Equal

@[expose] public section

noncomputable section

namespace Cert.Proof

theorem claim : Cert.Claim := ⟨Cert.Kernel.Gen.facts, Cert.KernelIdeal.Gen.facts, Cert.ReferenceIdeal.Gen.facts, Cert.Pre_in_range.Gen.facts,
  Task.frame_kernel, Task.frame_kernelIdeal, Task.frame_reference, Task.frame_reference_in_range, trivial, Task.equal⟩

end Cert.Proof

end
